-- ==== Defs.lean ====
def Pre_Kernel [hPre_targets_in_range : Cert.Pre_targets_in_range.Facts] (m : (ℓ : Loc Cert.Kernel.nD Cert.Kernel.τ Cert.Kernel.sig) → Buf (Elt Bits) ℓ) : Prop :=
  ∀ c : Dev Cert.Kernel.nD,
    (Cert.Pre_targets_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_targets_in_range : Cert.Pre_targets_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_targets_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_KernelIdeal_margins_bounded [hPre_margins_bounded : Cert.Pre_margins_bounded.Facts] (m : (ℓ : Loc Cert.KernelIdeal.nD Cert.KernelIdeal.τ Cert.KernelIdeal.sig) → Buf (Elt Ideal) ℓ) : Prop :=
  ∀ c : Dev Cert.KernelIdeal.nD,
    (Cert.Pre_margins_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_margins_bounded [hPre_margins_bounded : Cert.Pre_margins_bounded.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_margins_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_targets_in_range : Cert.Pre_targets_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_targets_in_range : Cert.Pre_targets_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_margins_bounded [hKernelIdeal : Cert.KernelIdeal.Facts] [hPre_margins_bounded : Cert.Pre_margins_bounded.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_margins_bounded m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_margins_bounded [hReferenceIdeal : Cert.ReferenceIdeal.Facts] [hPre_margins_bounded : Cert.Pre_margins_bounded.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_margins_bounded m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_margins_bounded [hKernelIdeal : Cert.KernelIdeal.Facts] [hReferenceIdeal : Cert.ReferenceIdeal.Facts] [hPre_margins_bounded : Cert.Pre_margins_bounded.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_margins_bounded m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_targets_in_range : Cert.Pre_targets_in_range.Facts) (hPre_margins_bounded : Cert.Pre_margins_bounded.Facts),
    quiescent_Kernel (hKernel := hKernel) (hPre_targets_in_range := hPre_targets_in_range)
    ∧ quiescent_KernelIdeal (hKernelIdeal := hKernelIdeal) (hPre_targets_in_range := hPre_targets_in_range)
    ∧ quiescent_KernelIdeal_pre_margins_bounded (hKernelIdeal := hKernelIdeal) (hPre_margins_bounded := hPre_margins_bounded)
    ∧ quiescent_ReferenceIdeal (hReferenceIdeal := hReferenceIdeal)
    ∧ quiescent_ReferenceIdeal_pre_margins_bounded (hReferenceIdeal := hReferenceIdeal) (hPre_margins_bounded := hPre_margins_bounded)
    ∧ preserves_Kernel_KernelIdeal
    ∧ algebraic_KernelIdeal_ReferenceIdeal_pre_margins_bounded (hKernelIdeal := hKernelIdeal) (hReferenceIdeal := hReferenceIdeal) (hPre_margins_bounded := hPre_margins_bounded)
-- ==== Pre_margins_bounded.lean ====
abbrev S16384x100 : Shape := ⟨2, ![16384, 100]⟩
abbrev S100 : Shape := ⟨1, ![100]⟩
abbrev S16384 : Shape := ⟨1, ![16384]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel
  bcast_S_S100 : S_.BroadcastsInDim S100 (![] : Fin 0 → Fin S100.rank)
  reducesTo_S100_S_d0 : S100.ReducesTo [0] S_

variable [Facts]

def fn {F : FTy → Type} [FloatOps F] (main_arg0 : FVec F S16384x100 .f32) (main_arg1 : FVec F S100 .f32) (main_arg2 : IVec S16384 32) : IVec S_ 1 :=
  let main_c : IVec S_ 32 := constantI S_ 32 0#32
  let main_v0 : IVec S16384 32 := broadcastInDim S16384 ![] bcast_S_S16384 main_c
  let main_v1 : IVec S16384 1 := cmpi .sge main_arg2 main_v0
  let main_c_0 : IVec S_ 32 := constantI S_ 32 100#32
  let main_v2 : IVec S16384 32 := broadcastInDim S16384 ![] bcast_S_S16384 main_c_0
  let main_v3 : IVec S16384 1 := cmpi .slt main_arg2 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  let main_cst : FVec F S_ .f32 := constant S_ .f32 0xFF800000#32
  let main_v6 : FVec F S100 .f32 := broadcastInDim S100 ![] bcast_S_S100 main_cst
  let main_v7 : IVec S100 1 := cmpf .ogt main_arg1 main_v6
  let main_c_2 : IVec S_ 1 := constantI S_ 1 1#1
  let main_v8 : IVec S_ 1 := (fun x v => Host.reduce IntOp.andi x v reducesTo_S100_S_d0 h_S_) main_v7 main_c_2
  let main_v9 : IVec S_ 1 := andi main_v5 main_v8
  let main_cst_3 : FVec F S_ .f32 := constant S_ .f32 0x40133333#32
  let main_v10 : FVec F S100 .f32 := broadcastInDim S100 ![] bcast_S_S100 main_cst_3
  let main_v11 : IVec S100 1 := cmpf .ole main_arg1 main_v10
  let main_c_4 : IVec S_ 1 := constantI S_ 1 1#1
  let main_v12 : IVec S_ 1 := (fun x v => Host.reduce IntOp.andi x v reducesTo_S100_S_d0 h_S_) main_v11 main_c_4
  let main_v13 : IVec S_ 1 := andi main_v9 main_v12
  main_v13
-- ==== Pre_targets_in_range.lean ====
abbrev S16384x100 : Shape := ⟨2, ![16384, 100]⟩
abbrev S100 : Shape := ⟨1, ![100]⟩
abbrev S16384 : Shape := ⟨1, ![16384]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : FVec F S16384x100 .f32) (main_arg1 : FVec F S100 .f32) (main_arg2 : IVec S16384 32) : IVec S_ 1 :=
  let main_c : IVec S_ 32 := constantI S_ 32 0#32
  let main_v0 : IVec S16384 32 := broadcastInDim S16384 ![] bcast_S_S16384 main_c
  let main_v1 : IVec S16384 1 := cmpi .sge main_arg2 main_v0
  let main_c_0 : IVec S_ 32 := constantI S_ 32 100#32
  let main_v2 : IVec S16384 32 := broadcastInDim S16384 ![] bcast_S_S16384 main_c_0
  let main_v3 : IVec S16384 1 := cmpi .slt main_arg2 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  main_v5
-- ==== Kernel.lean ====
abbrev S16384x100 : Shape := ⟨2, ![16384, 100]⟩
abbrev S100 : Shape := ⟨1, ![100]⟩
abbrev S16384 : Shape := ⟨1, ![16384]⟩
abbrev S100x16384 : Shape := ⟨2, ![100, 16384]⟩
abbrev S8x1x2048 : Shape := ⟨3, ![8, 1, 2048]⟩
abbrev S100x1024 : Shape := ⟨2, ![100, 1024]⟩
abbrev S1024 : Shape := ⟨1, ![1024]⟩
abbrev S_ : Shape := ⟨0, ![]⟩
abbrev S16 : Shape := ⟨1, ![16]⟩
abbrev S1x1x1024 : Shape := ⟨3, ![1, 1, 1024]⟩
abbrev S1x1 : Shape := ⟨2, ![1, 1]⟩
abbrev S100x2048 : Shape := ⟨2, ![100, 2048]⟩
abbrev S1x1x2048 : Shape := ⟨3, ![1, 1, 2048]⟩
abbrev S1x2048 : Shape := ⟨2, ![1, 2048]⟩
abbrev S2048 : Shape := ⟨1, ![2048]⟩
abbrev S1 : Shape := ⟨1, ![1]⟩
abbrev S1x1x1 : Shape := ⟨3, ![1, 1, 1]⟩

abbrev nBuf : Table → Nat
  | .hbm => 8
  | .local .tc .vmem => 6
  | .local .tc .smem => 1
  | .local .scVector .vmem => 5
  | _ => 0

abbrev bufTy : (tb : Table) → Fin (nBuf tb) → BufTy
  | .hbm, ⟨0, _⟩ => ⟨S16384x100, .f32⟩
  | .hbm, ⟨1, _⟩ => ⟨S100, .f32⟩
  | .hbm, ⟨2, _⟩ => ⟨S16384, .i32⟩
  | .hbm, ⟨3, _⟩ => ⟨S100x16384, .f32⟩
  | .hbm, ⟨4, _⟩ => ⟨S8x1x2048, .f32⟩
  | .hbm, ⟨5, _⟩ => ⟨S8x1x2048, .f32⟩
  | .hbm, ⟨6, _⟩ => ⟨S1x1, .f32⟩
  | .hbm, ⟨7, _⟩ => ⟨S_, .f32⟩
  | .local .tc .vmem, ⟨0, _⟩ => ⟨S100x2048, .f32⟩
  | .local .tc .vmem, ⟨1, _⟩ => ⟨S100x2048, .f32⟩
  | .local .tc .vmem, ⟨2, _⟩ => ⟨S1x1x2048, .f32⟩
  | .local .tc .vmem, ⟨3, _⟩ => ⟨S1x1x2048, .f32⟩
  | .local .tc .vmem, ⟨4, _⟩ => ⟨S1x1x2048, .f32⟩
  | .local .tc .vmem, ⟨5, _⟩ => ⟨S1x1x2048, .f32⟩
  | .local .tc .smem, ⟨0, _⟩ => ⟨S1x1, .f32⟩
  | .local .scVector .vmem, ⟨0, _⟩ => ⟨S100x1024, .f32⟩
  | .local .scVector .vmem, ⟨1, _⟩ => ⟨S1024, .i32⟩
  | .local .scVector .vmem, ⟨2, _⟩ => ⟨S100, .f32⟩
  | .local .scVector .vmem, ⟨3, _⟩ => ⟨S1024, .f32⟩
  | .local .scVector .vmem, ⟨4, _⟩ => ⟨S1024, .f32⟩
  | _, _ => ⟨S16384x100, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev main_v0_scv : Ref sig .scVector := ⟨.hbm, 3, rfl⟩
abbrev main_arg1_scv : Ref sig .scVector := ⟨.hbm, 1, rfl⟩
abbrev main_arg2_scv : Ref sig .scVector := ⟨.hbm, 2, rfl⟩
abbrev main_v1_0_scv : Ref sig .scVector := ⟨.hbm, 4, rfl⟩
abbrev main_v1_1_scv : Ref sig .scVector := ⟨.hbm, 5, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.smem, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 16], ![false, false]⟩

def k0_off1 (i : grid0.Coords) : Fin 2 → Nat :=
  let c0_i32_17_r0 : BitVec 32 := 0#32
  let arg1 : BitVec 32 := BitVec.ofNat 32 (i 1).val
  let c1024_i32 : BitVec 32 := 1024#32
  let v0 : BitVec 32 := Scalar.muli arg1 c1024_i32
  ![0, v0.toNat]
def k0_off2 (i : grid0.Coords) : Fin 1 → Nat :=
  let arg1 : BitVec 32 := BitVec.ofNat 32 (i 1).val
  let c1024_i32 : BitVec 32 := 1024#32
  let v0 : BitVec 32 := Scalar.muli arg1 c1024_i32
  ![v0.toNat]
@[reducible] def k0_t1_loop : Scf.Loop 32 :=
  let c0_i32_0 : BitVec 32 := 0#32
  let c64_i32 : BitVec 32 := 64#32
  let v2 : BitVec 32 := Scalar.addi c0_i32_0 c64_i32
  let c1_i32 : BitVec 32 := 1#32
  ⟨c0_i32_0, v2, c1_i32⟩
def k0_off3 (k0_t1 : Fin k0_t1_loop.trips) : Fin 1 → Nat :=
  let c0_i32_0 : BitVec 32 := 0#32
  let c1_i32 : BitVec 32 := 1#32
  let arg12 : BitVec 32 := Scf.iv c0_i32_0 c1_i32 k0_t1
  let c16_i32 : BitVec 32 := 16#32
  let v31 : BitVec 32 := Scalar.muli arg12 c16_i32
  let v34 : Index := Scalar.indexCast v31
  ![v34.toNat]
def k0_off4 (k0_t1 : Fin k0_t1_loop.trips) : Fin 1 → Nat :=
  let c0_i32_0 : BitVec 32 := 0#32
  let c1_i32 : BitVec 32 := 1#32
  let arg12 : BitVec 32 := Scf.iv c0_i32_0 c1_i32 k0_t1
  let c16_i32 : BitVec 32 := 16#32
  let v31 : BitVec 32 := Scalar.muli arg12 c16_i32
  let v37 : Index := Scalar.indexCast v31
  ![v37.toNat]

def k0_chk1 (v33 : IVec S16 32) (v35 : IVec S16 32) : Prop :=
  (∀ a x, ((![v35] : Fin 1 → IVec S16 32) a x).toNat < S100.size a) ∧
  (∀ a x, ((![v35, v33] : Fin 2 → IVec S16 32) a x).toNat < S100x1024.size a)
theorem k0_idx1_inb : ∀ (v33 : IVec S16 32) (v35 : IVec S16 32) (k0_hw1 : k0_chk1 v33 v35), ∀ a x, ((![v35] : Fin 1 → IVec S16 32) a x).toNat < S100.size a := fun v33 v35 k0_hw1 => k0_hw1.1
theorem k0_idx2_inb : ∀ (v33 : IVec S16 32) (v35 : IVec S16 32) (k0_hw1 : k0_chk1 v33 v35), ∀ a x, ((![v35, v33] : Fin 2 → IVec S16 32) a x).toNat < S100x1024.size a := fun v33 v35 k0_hw1 => k0_hw1.2
def k0_off5 (k0_t1 : Fin k0_t1_loop.trips) : Fin 1 → Nat :=
  let c0_i32_0 : BitVec 32 := 0#32
  let c1_i32 : BitVec 32 := 1#32
  let arg12 : BitVec 32 := Scf.iv c0_i32_0 c1_i32 k0_t1
  let c16_i32 : BitVec 32 := 16#32
  let v31 : BitVec 32 := Scalar.muli arg12 c16_i32
  let v40 : Index := Scalar.indexCast v31
  ![v40.toNat]
def k0_off6 (i : grid0.Coords) : Fin 3 → Nat :=
  let arg1 : BitVec 32 := BitVec.ofNat 32 (i 1).val
  let c0_i32_2 : BitVec 32 := 0#32
  let v4 : BitVec 1 := Scalar.cmpi .sgt arg1 c0_i32_2
  let v5 : BitVec 32 := Scalar.extui v4
  let c0_i32_3 : BitVec 32 := 0#32
  let v6 : BitVec 1 := Scalar.cmpi .slt arg1 c0_i32_3
  let v7 : BitVec 32 := Scalar.extui v6
  let v8 : BitVec 32 := Scalar.subi v5 v7
  let c2_i32 : BitVec 32 := 2#32
  let c0_i32_4 : BitVec 32 := 0#32
  let v9 : BitVec 1 := Scalar.cmpi .sgt c2_i32 c0_i32_4
  let v10 : BitVec 32 := Scalar.extui v9
  let c0_i32_5 : BitVec 32 := 0#32
  let v11 : BitVec 1 := Scalar.cmpi .slt c2_i32 c0_i32_5
  let v12 : BitVec 32 := Scalar.extui v11
  let v13 : BitVec 32 := Scalar.subi v10 v12
  let v14 : BitVec 1 := Scalar.cmpi .ne v8 v13
  let v15 : BitVec 32 := Scalar.remsi arg1 c2_i32
  let c0_i32_6 : BitVec 32 := 0#32
  let v16 : BitVec 1 := Scalar.cmpi .ne v15 c0_i32_6
  let v17 : BitVec 1 := Scalar.andi v14 v16
  let v3 : BitVec 32 := Scalar.divsi arg1 c2_i32
  let c1_i32_7 : BitVec 32 := 1#32
  let v18 : BitVec 32 := Scalar.subi v3 c1_i32_7
  let v19 : BitVec 32 := Scalar.select v17 v18 v3
  let c0_i32_15 : BitVec 32 := 0#32
  let c2_i32_8 : BitVec 32 := 2#32
  let c0_i32_9 : BitVec 32 := 0#32
  let v20 : BitVec 1 := Scalar.cmpi .eq c2_i32_8 c0_i32_9
  let c1_i32_10 : BitVec 32 := 1#32
  let v21 : BitVec 32 := Scalar.select v20 c1_i32_10 c2_i32_8
  let v22 : BitVec 32 := Scalar.remsi arg1 v21
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let c0_i32_11 : BitVec 32 := 0#32
  let v23 : BitVec 1 := Scalar.cmpi .ne v22 c0_i32_11
  let v27 : BitVec 1 := Scalar.andi v26 v23
  let v28 : BitVec 32 := Scalar.addi v22 v21
  let v29 : BitVec 32 := Scalar.select v27 v28 v22
  let c1024_i32_14 : BitVec 32 := 1024#32
  let v30 : BitVec 32 := Scalar.muli v29 c1024_i32_14
  ![v19.toNat, 0, v30.toNat]
abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S100x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .smem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x100 : Shape := ⟨2, ![16384, 100]⟩
abbrev S100 : Shape := ⟨1, ![100]⟩
abbrev S16384 : Shape := ⟨1, ![16384]⟩
abbrev S_ : Shape := ⟨0, ![]⟩
abbrev S16384x1 : Shape := ⟨2, ![16384, 1]⟩
abbrev S16384x2 : Shape := ⟨2, ![16384, 2]⟩

abbrev nBuf : Space → Nat
  | .hbm => 80
  | .vmem => 0
  | .smem => 0
  | _ => 0

abbrev bufTy : (tb : Table) → Fin (tcTables nBuf tb) → BufTy
  | .hbm, ⟨0, _⟩ => ⟨S16384x100, .f32⟩
  | .hbm, ⟨1, _⟩ => ⟨S100, .f32⟩
  | .hbm, ⟨2, _⟩ => ⟨S16384, .i32⟩
  | .hbm, ⟨3, _⟩ => ⟨S16384, .i32⟩
  | .hbm, ⟨4, _⟩ => ⟨S_, .i32⟩
  | .hbm, ⟨5, _⟩ => ⟨S16384, .i32⟩
  | .hbm, ⟨6, _⟩ => ⟨S16384, .i1⟩
  | .hbm, ⟨7, _⟩ => ⟨S_, .i32⟩
  | .hbm, ⟨8, _⟩ => ⟨S16384, .i32⟩
  | .hbm, ⟨9, _⟩ => ⟨S16384, .i32⟩
  | .hbm, ⟨10, _⟩ => ⟨S16384, .i32⟩
  | .hbm, ⟨11, _⟩ => ⟨S16384x1, .i32⟩
  | .hbm, ⟨12, _⟩ => ⟨S16384, .f32⟩
  | .hbm, ⟨13, _⟩ => ⟨S_, .i32⟩
  | .hbm, ⟨14, _⟩ => ⟨S16384, .i32⟩
  | .hbm, ⟨15, _⟩ => ⟨S16384, .i1⟩
  | .hbm, ⟨16, _⟩ => ⟨S_, .i32⟩
  | .hbm, ⟨17, _⟩ => ⟨S16384, .i32⟩
  | .hbm, ⟨18, _⟩ => ⟨S16384, .i32⟩
  | .hbm, ⟨19, _⟩ => ⟨S16384, .i32⟩
  | .hbm, ⟨20, _⟩ => ⟨S_, .i32⟩
  | .hbm, ⟨21, _⟩ => ⟨S16384, .i32⟩
  | .hbm, ⟨22, _⟩ => ⟨S16384, .i1⟩
  | .hbm, ⟨23, _⟩ => ⟨S_, .i32⟩
  | .hbm, ⟨24, _⟩ => ⟨S16384, .i32⟩
  | .hbm, ⟨25, _⟩ => ⟨S16384, .i32⟩
  | .hbm, ⟨26, _⟩ => ⟨S16384, .i32⟩
  | .hbm, ⟨27, _⟩ => ⟨S16384x1, .i32⟩
  | .hbm, ⟨28, _⟩ => ⟨S16384x1, .i32⟩
  | .hbm, ⟨29, _⟩ => ⟨S16384x2, .i32⟩
  | .hbm, ⟨30, _⟩ => ⟨S16384, .f32⟩
  | .hbm, ⟨31, _⟩ => ⟨S16384, .f32⟩
  | .hbm, ⟨32, _⟩ => ⟨S_, .i32⟩
  | .hbm, ⟨33, _⟩ => ⟨S16384, .i32⟩
  | .hbm, ⟨34, _⟩ => ⟨S16384, .i1⟩
  | .hbm, ⟨35, _⟩ => ⟨S_, .i32⟩
  | .hbm, ⟨36, _⟩ => ⟨S16384, .i32⟩
  | .hbm, ⟨37, _⟩ => ⟨S16384, .i32⟩
  | .hbm, ⟨38, _⟩ => ⟨S16384, .i32⟩
  | .hbm, ⟨39, _⟩ => ⟨S_, .i32⟩
  | .hbm, ⟨40, _⟩ => ⟨S16384, .i32⟩
  | .hbm, ⟨41, _⟩ => ⟨S16384, .i1⟩
  | .hbm, ⟨42, _⟩ => ⟨S_, .i32⟩
  | .hbm, ⟨43, _⟩ => ⟨S16384, .i32⟩
  | .hbm, ⟨44, _⟩ => ⟨S16384, .i32⟩
  | .hbm, ⟨45, _⟩ => ⟨S16384, .i32⟩
  | .hbm, ⟨46, _⟩ => ⟨S16384x1, .i32⟩
  | .hbm, ⟨47, _⟩ => ⟨S16384x1, .i32⟩
  | .hbm, ⟨48, _⟩ => ⟨S16384x2, .i32⟩
  | .hbm, ⟨49, _⟩ => ⟨S16384x100, .f32⟩
  | .hbm, ⟨50, _⟩ => ⟨S_, .f32⟩
  | .hbm, ⟨51, _⟩ => ⟨S16384x100, .f32⟩
  | .hbm, ⟨52, _⟩ => ⟨S16384x100, .f32⟩
  | .hbm, ⟨53, _⟩ => ⟨S16384x100, .f32⟩
  | .hbm, ⟨54, _⟩ => ⟨S_, .f32⟩
  | .hbm, ⟨55, _⟩ => ⟨S16384, .f32⟩
  | .hbm, ⟨56, _⟩ => ⟨S16384, .f32⟩
  | .hbm, ⟨57, _⟩ => ⟨S_, .i32⟩
  | .hbm, ⟨58, _⟩ => ⟨S16384, .i32⟩
  | .hbm, ⟨59, _⟩ => ⟨S16384, .i1⟩
  | .hbm, ⟨60, _⟩ => ⟨S_, .i32⟩
  | .hbm, ⟨61, _⟩ => ⟨S16384, .i32⟩
  | .hbm, ⟨62, _⟩ => ⟨S16384, .i32⟩
  | .hbm, ⟨63, _⟩ => ⟨S16384, .i32⟩
  | .hbm, ⟨64, _⟩ => ⟨S_, .i32⟩
  | .hbm, ⟨65, _⟩ => ⟨S16384, .i32⟩
  | .hbm, ⟨66, _⟩ => ⟨S16384, .i1⟩
  | .hbm, ⟨67, _⟩ => ⟨S_, .i32⟩
  | .hbm, ⟨68, _⟩ => ⟨S16384, .i32⟩
  | .hbm, ⟨69, _⟩ => ⟨S16384, .i32⟩
  | .hbm, ⟨70, _⟩ => ⟨S16384, .i32⟩
  | .hbm, ⟨71, _⟩ => ⟨S16384x1, .i32⟩
  | .hbm, ⟨72, _⟩ => ⟨S16384x1, .i32⟩
  | .hbm, ⟨73, _⟩ => ⟨S16384x2, .i32⟩
  | .hbm, ⟨74, _⟩ => ⟨S16384, .f32⟩
  | .hbm, ⟨75, _⟩ => ⟨S16384, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | _, _ => ⟨S16384x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_c_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_3 : Ref sig .tc := ⟨.hbm, 20, rfl⟩
abbrev main_v13 : Ref sig .tc := ⟨.hbm, 21, rfl⟩
abbrev main_v14 : Ref sig .tc := ⟨.hbm, 22, rfl⟩
abbrev main_c_4 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_5 : Ref sig .tc := ⟨.hbm, 32, rfl⟩
abbrev main_v23 : Ref sig .tc := ⟨.hbm, 33, rfl⟩
abbrev main_v24 : Ref sig .tc := ⟨.hbm, 34, rfl⟩
abbrev main_c_6 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_7 : Ref sig .tc := ⟨.hbm, 39, rfl⟩
abbrev main_v28 : Ref sig .tc := ⟨.hbm, 40, rfl⟩
abbrev main_v29 : Ref sig .tc := ⟨.hbm, 41, rfl⟩
abbrev main_c_8 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_9 : Ref sig .tc := ⟨.hbm, 54, rfl⟩
abbrev main_v40 : Ref sig .tc := ⟨.hbm, 55, rfl⟩
abbrev main_v41 : Ref sig .tc := ⟨.hbm, 56, rfl⟩
abbrev main_c_10 : Ref sig .tc := ⟨.hbm, 57, rfl⟩
abbrev main_v42 : Ref sig .tc := ⟨.hbm, 58, rfl⟩
abbrev main_v43 : Ref sig .tc := ⟨.hbm, 59, rfl⟩
abbrev main_c_11 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_c_12 : Ref sig .tc := ⟨.hbm, 64, rfl⟩
abbrev main_v47 : Ref sig .tc := ⟨.hbm, 65, rfl⟩
abbrev main_v48 : Ref sig .tc := ⟨.hbm, 66, rfl⟩
abbrev main_c_13 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_14 : Ref sig .tc := ⟨.hbm, 76, rfl⟩
abbrev main_v57 : Ref sig .tc := ⟨.hbm, 77, rfl⟩
abbrev main_cst_15 : Ref sig .tc := ⟨.hbm, 78, rfl⟩
abbrev main_v58 : Ref sig .tc := ⟨.hbm, 79, rfl⟩

abbrev nD : Nat := 1
abbrev τ : Topo := Topo.v7x

variable {F : FTy → Type} [FloatOps F]
-- ==== Proof.KernelIdeal.Setup.lean ====
/-
  The program as the SparseCore launch theorem sees it, and the names the other modules of this proof share: the memory's
  arrays, the memrefs a tile addresses them by, and what a tile gathers.
-/
module

public import Idealize.ShloMosaic.Lib.SparseCore.Quiescent
public import Idealize.ShloMosaic.Lib.StableHlo.Run
public import Idealize.ShloMosaic.Lib.Pipeline.Kit
public import Idealize.ShloMosaic.Lib.Pipeline.Regions
public import Idealize.ShloMosaic.Lib.Tactic
public import Idealize.ShloMosaic.Lib.ValueIdxCore
public import proofs.«01_k».proof.Proof.Gen.KernelIdeal
public import proofs.«01_k».proof.Proof.Gen.KernelIdeal.Skeleton

@[expose] public section

noncomputable section

namespace Cert.Proof.KernelIdeal

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI Idealize.SL.Sem
open Idealize.ShloMosaic.Rounds

variable {F : FTy → Type}

/-! ## The launch's parameters -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

/-- The handshakes' rounds, the pipeline's rounds, the transfers' counters. -/
abbrev UH : Type := URounds (GSem nD τ sig) ℕ
abbrev UP : Type := URounds (GSem nD τ sig) Unit
abbrev UU : Type := UH × (UP × Counters)

abbrev EH : Emb UH (MT nD τ sig (HIx 1) (Elt F) ℕ UU ℕ) := embL

/-! ## The arrays -/

abbrev aLoc (d : Dev nD) : Loc nD τ sig := (SparseCore.T d).loc main_arg0
abbrev mLoc (d : Dev nD) : Loc nD τ sig := (SparseCore.T d).loc main_arg1
abbrev tLoc (d : Dev nD) : Loc nD τ sig := (SparseCore.T d).loc main_arg2
abbrev xLoc (d : Dev nD) : Loc nD τ sig := (SparseCore.T d).loc main_v0
abbrev oLoc (d : Dev nD) : Loc nD τ sig := (SparseCore.T d).loc main_v1_0
abbrev pLoc (d : Dev nD) : Loc nD τ sig := (SparseCore.T d).loc main_v1_1
abbrev sLoc (d : Dev nD) : Loc nD τ sig := (SparseCore.T d).loc main_v2
abbrev rLoc (d : Dev nD) : Loc nD τ sig := (SparseCore.T d).loc main_v3

/-! ## What the tiles gather -/

/-- The class of row `r`, as an index. (The words are below 100 in every run the claims speak of.) -/
def cls {n : ℕ} (t : (⟨1, ![n]⟩ : Shape).Idx → BitVec 32) (r : Fin n) : Fin 100 := ⟨(t (ix1 r)).toNat % 100, Nat.mod_lt _ (by decide)⟩

/-- Row `r`'s entry, at its class, of a transposed batch; -/
def gatherX {α : Type} {n : ℕ} (x : (⟨2, ![100, n]⟩ : Shape).Idx → α) (t : (⟨1, ![n]⟩ : Shape).Idx → BitVec 32) (r : Fin n) : α :=
  x (ix2 (cls t r) r)
/-- and its class's margin. -/
def gatherM {α : Type} {n : ℕ} (w : S100.Idx → α) (t : (⟨1, ![n]⟩ : Shape).Idx → BitVec 32) (r : Fin n) : α := w (ix1 (cls t r))

/-- The batch row that entry `y` of an 8 by 1 by 2048 array is for. -/
def rowOf (y : S8x1x2048.Idx) : Fin 16384 := ⟨2048 * (y 0).val + (y 2).val, by
  have h0 : (y 0).val < 8 := (y 0).isLt
  have h2 : (y 2).val < 2048 := (y 2).isLt
  omega⟩

/-- The array of the entries at the rows' classes, blocked; -/
def xt {α : Type} (x : S100x16384.Idx → α) (t : S16384.Idx → BitVec 32) : S8x1x2048.Idx → α := fun y => gatherX x t (rowOf y)
/-- and that of their classes' margins. -/
def mt {α : Type} (w : S100.Idx → α) (t : S16384.Idx → BitVec 32) : S8x1x2048.Idx → α := fun y => gatherM w t (rowOf y)

end Cert.Proof.KernelIdeal

end
-- ==== Proof.KernelIdeal.Tile.lean ====
/-
  One SparseCore tile's task, with what it leaves: at a symbolic pair of SparseCore and tile the three copies in, the loop
  of sixteen-lane gathers, the two copies out.
-/
module

public import proofs.«01_k».proof.Proof.KernelIdeal.Setup

@[expose] public section

noncomputable section

namespace Cert.Proof.KernelIdeal

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v0_scv : Memref Cert.KernelIdeal.sig Kind.scVector Space.hbm Cert.KernelIdeal.S100x16384 EltTy.f32)
local notation "mV" => (Memref.whole Cert.KernelIdeal.main_arg1_scv : Memref Cert.KernelIdeal.sig Kind.scVector Space.hbm Cert.KernelIdeal.S100 EltTy.f32)
local notation "tV" => (Memref.whole Cert.KernelIdeal.main_arg2_scv : Memref Cert.KernelIdeal.sig Kind.scVector Space.hbm Cert.KernelIdeal.S16384 EltTy.i32)
local notation "oV" => (Memref.whole Cert.KernelIdeal.main_v1_0_scv : Memref Cert.KernelIdeal.sig Kind.scVector Space.hbm Cert.KernelIdeal.S8x1x2048 EltTy.f32)
local notation "pV" => (Memref.whole Cert.KernelIdeal.main_v1_1_scv : Memref Cert.KernelIdeal.sig Kind.scVector Space.hbm Cert.KernelIdeal.S8x1x2048 EltTy.f32)
local notation "b0V" => (Memref.whole Cert.KernelIdeal.cc0_scratch0 : Memref Cert.KernelIdeal.sig Kind.scVector Space.vmem Cert.KernelIdeal.S100x1024 EltTy.f32)
local notation "b1V" => (Memref.whole Cert.KernelIdeal.cc0_scratch1 : Memref Cert.KernelIdeal.sig Kind.scVector Space.vmem Cert.KernelIdeal.S1024 EltTy.i32)
local notation "b2V" => (Memref.whole Cert.KernelIdeal.cc0_scratch2 : Memref Cert.KernelIdeal.sig Kind.scVector Space.vmem Cert.KernelIdeal.S100 EltTy.f32)
local notation "b3V" => (Memref.whole Cert.KernelIdeal.cc0_scratch3 : Memref Cert.KernelIdeal.sig Kind.scVector Space.vmem Cert.KernelIdeal.S1024 EltTy.f32)
local notation "b4V" => (Memref.whole Cert.KernelIdeal.cc0_scratch4 : Memref Cert.KernelIdeal.sig Kind.scVector Space.vmem Cert.KernelIdeal.S1024 EltTy.f32)

/-! ## The geometry of a tile's output -/

/-- Where tile `i 1` writes its 1024 results: block `(i 1) / 2`, half `(i 1) % 2` of it. -/
theorem k0_off6_eq (i : grid0.Coords) : k0_off6 i = ![(i 1).val / 2, 0, 1024 * ((i 1).val % 2)] := by
  revert i; decide +kernel

section Tile

variable (d : Dev nD) (L : grid0.Coords)

abbrev cV (L : grid0.Coords) : Fin τ.nSC := (L 0).castLE hcore0
abbrev jV (L : grid0.Coords) : Fin τ.nSub := (L 1).castLE hsub0
theorem bound_one : grid0.bound 1 = 16 := rfl
abbrev jL (L : grid0.Coords) : Fin 16 := Fin.cast bound_one (L 1)

/-- The rectangle of an output that tile `L 1` writes. -/
abbrev orect (L : grid0.Coords) : Rect S8x1x2048 := Rect.unit (s := S8x1x2048) (k0_off6 L) S1x1x1024.size (k0_off6_inb L)
/-- The outputs' parts as the task addresses them. -/
abbrev oK (L : grid0.Coords) : Memref sig .scVector .hbm S1024 .f32 := ((oV).slice (orect L) (fun _ => rfl)).squeeze S1024 squeezes_S1x1x1024_S1024
abbrev pK (L : grid0.Coords) : Memref sig .scVector .hbm S1024 .f32 := ((pV).slice (orect L) (fun _ => rfl)).squeeze S1024 squeezes_S1x1x1024_S1024

/-- The places of an output that tile `w` writes: block `w / 2`, half `w % 2`. -/
def part (w : Fin 16) : Finset S8x1x2048.Idx := Finset.univ.filter fun y => (rowOf y).val / 1024 = w.val

theorem mem_part {w : Fin 16} {y : S8x1x2048.Idx} : y ∈ part w ↔ (rowOf y).val / 1024 = w.val := by simp [part]

theorem set_orect (L : grid0.Coords) : (orect L).set = part (jL L) := by
  ext y
  rw [mem_part, Rect.mem_set_unit, k0_off6_eq]
  have h0 : (y 0).val < 8 := (y 0).isLt
  have h1 : (y 1).val < 1 := (y 1).isLt
  have h2 : (y 2).val < 2048 := (y 2).isLt
  have hj : (L 1).val < 16 := (L 1).isLt
  have hr : (rowOf y).val = 2048 * (y 0).val + (y 2).val := rfl
  have hjl : (jL L).val = (L 1).val := rfl
  rw [hr, hjl]
  constructor
  · intro h
    have a0 := h 0
    have a2 := h 2
    simp at a0 a2
    omega
  · intro h a
    match a with
    | 0 => simp; omega
    | 1 => simp; omega
    | 2 => simp; omega

theorem set_oK : (oK L).view.set = part (jL L) := by
  show (((oV).view.slice (orect L)).reshape S1024 squeezes_S1x1x1024_S1024.numel_eq).set = _
  rw [View.set_reshape, ← set_orect]
  exact (View.set_slice _ _).trans Finset.map_refl
theorem set_pK : (pK L).view.set = part (jL L) := by
  show (((pV).view.slice (orect L)).reshape S1024 squeezes_S1x1x1024_S1024.numel_eq).set = _
  rw [View.set_reshape, ← set_orect]
  exact (View.set_slice _ _).trans Finset.map_refl

/-! ## The names the executor reads the buffers by -/

theorem pts_xV (q : PosShare TreeShare) (f : Buf (Elt F) (xLoc d)) :
    ((xV).view.loc (V d (cV L) (jV L)) ↦{q} f : sProp 𝕄) = xLoc d ↦{q} f := rfl
theorem pts_mV (q : PosShare TreeShare) (f : Buf (Elt F) (mLoc d)) :
    ((mV).view.loc (V d (cV L) (jV L)) ↦{q} f : sProp 𝕄) = mLoc d ↦{q} f := rfl
theorem pts_tV (q : PosShare TreeShare) (f : Buf (Elt F) (tLoc d)) :
    ((tV).view.loc (V d (cV L) (jV L)) ↦{q} f : sProp 𝕄) = tLoc d ↦{q} f := rfl
theorem pts_oK (f : Buf (Elt F) (oLoc d)) :
    ((oK L).view.loc (V d (cV L) (jV L)) ↦[(oK L).view.set]{fullShare} f : sProp 𝕄) = oLoc d ↦[part (jL L)]{fullShare} f := by
  rw [set_oK]
theorem pts_pK (f : Buf (Elt F) (pLoc d)) :
    ((pK L).view.loc (V d (cV L) (jV L)) ↦[(pK L).view.set]{fullShare} f : sProp 𝕄) = pLoc d ↦[part (jL L)]{fullShare} f := by
  rw [set_pK]
theorem pts_b0 (f : Buf (Elt F) ((V d (cV L) (jV L)).loc cc0_scratch0)) :
    ((b0V).view.loc (V d (cV L) (jV L)) ↦{fullShare} f : sProp 𝕄) = (V d (cV L) (jV L)).loc cc0_scratch0 ↦{fullShare} f := rfl
theorem pts_b1 (f : Buf (Elt F) ((V d (cV L) (jV L)).loc cc0_scratch1)) :
    ((b1V).view.loc (V d (cV L) (jV L)) ↦{fullShare} f : sProp 𝕄) = (V d (cV L) (jV L)).loc cc0_scratch1 ↦{fullShare} f := rfl
theorem pts_b2 (f : Buf (Elt F) ((V d (cV L) (jV L)).loc cc0_scratch2)) :
    ((b2V).view.loc (V d (cV L) (jV L)) ↦{fullShare} f : sProp 𝕄) = (V d (cV L) (jV L)).loc cc0_scratch2 ↦{fullShare} f := rfl
theorem pts_b3 (f : Buf (Elt F) ((V d (cV L) (jV L)).loc cc0_scratch3)) :
    ((b3V).view.loc (V d (cV L) (jV L)) ↦{fullShare} f : sProp 𝕄) = (V d (cV L) (jV L)).loc cc0_scratch3 ↦{fullShare} f := rfl
theorem pts_b4 (f : Buf (Elt F) ((V d (cV L) (jV L)).loc cc0_scratch4)) :
    ((b4V).view.loc (V d (cV L) (jV L)) ↦{fullShare} f : sProp 𝕄) = (V d (cV L) (jV L)).loc cc0_scratch4 ↦{fullShare} f := rfl

/-! ## The tile's own semaphores and buffers, the five and five its body names first -/

abbrev cell0 (d : Dev nD) (c : Fin τ.nSC) (i : Fin τ.nSub) : GSem nD τ sig := (V d c i, .dma cc0_scoped0.sem)
abbrev cell1 (d : Dev nD) (c : Fin τ.nSC) (i : Fin τ.nSub) : GSem nD τ sig := (V d c i, .dma cc0_scoped1.sem)
abbrev cell2 (d : Dev nD) (c : Fin τ.nSC) (i : Fin τ.nSub) : GSem nD τ sig := (V d c i, .dma cc0_scoped2.sem)
abbrev cell3 (d : Dev nD) (c : Fin τ.nSC) (i : Fin τ.nSub) : GSem nD τ sig := (V d c i, .dma cc0_scoped3.sem)
abbrev cell4 (d : Dev nD) (c : Fin τ.nSC) (i : Fin τ.nSub) : GSem nD τ sig := (V d c i, .dma cc0_scoped4.sem)

theorem cell_own (s : SemLoc sig) (h : s.isScoped .scVector = true) : ((V d (cV L) (jV L), s) : GSem nD τ sig) ∈ ownCells (V d (cV L) (jV L)) :=
  mem_ownCells.mpr ⟨rfl, h⟩

/-- What is left of the tile's own semaphores beside the five. -/
abbrev restCells (d : Dev nD) (L : grid0.Coords) : Finset (GSem nD τ sig) :=
  (((((ownCells (V d (cV L) (jV L))).erase (cell0 d (cV L) (jV L))).erase (cell1 d (cV L) (jV L))).erase (cell2 d (cV L) (jV L))).erase
    (cell3 d (cV L) (jV L))).erase (cell4 d (cV L) (jV L))

theorem ownSems0_V :
    (ownSems0 (V d (cV L) (jV L)) : sProp 𝕄)
      = iprop(semVal (cell0 d (cV L) (jV L)) 0 ∗ semVal (cell1 d (cV L) (jV L)) 0 ∗ semVal (cell2 d (cV L) (jV L)) 0
          ∗ semVal (cell3 d (cV L) (jV L)) 0 ∗ semVal (cell4 d (cV L) (jV L)) 0 ∗ bigSep (restCells d L) fun g => semVal g 0) := by
  unfold SparseCore.Cfg.ownSems0
  rw [SparseCore.bigSep_erase' (cell_own d L (.dma cc0_scoped0.sem) (by decide)),
    SparseCore.bigSep_erase' (i := cell1 d (cV L) (jV L)) (Finset.mem_erase.mpr ⟨by simp [cell0, cell1]; decide, cell_own d L _ (by decide)⟩),
    SparseCore.bigSep_erase' (i := cell2 d (cV L) (jV L)) (Finset.mem_erase.mpr ⟨by simp [cell1, cell2]; decide,
      Finset.mem_erase.mpr ⟨by simp [cell0, cell2]; decide, cell_own d L _ (by decide)⟩⟩),
    SparseCore.bigSep_erase' (i := cell3 d (cV L) (jV L)) (Finset.mem_erase.mpr ⟨by simp [cell2, cell3]; decide,
      Finset.mem_erase.mpr ⟨by simp [cell1, cell3]; decide, Finset.mem_erase.mpr ⟨by simp [cell0, cell3]; decide, cell_own d L _ (by decide)⟩⟩⟩),
    SparseCore.bigSep_erase' (i := cell4 d (cV L) (jV L)) (Finset.mem_erase.mpr ⟨by simp [cell3, cell4]; decide,
      Finset.mem_erase.mpr ⟨by simp [cell2, cell4]; decide, Finset.mem_erase.mpr ⟨by simp [cell1, cell4]; decide,
        Finset.mem_erase.mpr ⟨by simp [cell0, cell4]; decide, cell_own d L _ (by decide)⟩⟩⟩⟩)]

abbrev dref (L : grid0.Coords) (b : Ref sig .scVector) : DevRef τ sig := (Proc.scVector (cV L) (jV L)).devRef b

theorem ref_own (b : Ref sig .scVector) (h : (dref L b).owner = .proc (.scVector (cV L) (jV L))) :
    dref L b ∈ ownRefs (τ := τ) (.scVector (cV L) (jV L)) := SparseCore.Cfg.mem_ownRefs_of_owner h

/-- What is left of the tile's own buffers beside the five. -/
abbrev restRefs (L : grid0.Coords) : Finset (DevRef τ sig) :=
  (((((ownRefs (τ := τ) (.scVector (cV L) (jV L))).erase (dref L cc0_scratch0)).erase (dref L cc0_scratch1)).erase (dref L cc0_scratch2)).erase
    (dref L cc0_scratch3)).erase (dref L cc0_scratch4)

theorem dref_ne {b b' : Ref sig .scVector} (h : b ≠ b') : dref L b ≠ dref L b' := fun e => h (Proc.devRef_injective _ e)

theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ (∃ f, (V d (cV L) (jV L)).loc cc0_scratch4 ↦{fullShare} f)
          ∗ bigSep (restRefs L) fun b => iprop(∃ f, ((d, b) : Loc nD τ sig) ↦{fullShare} f)) := by
  unfold SparseCore.Cfg.ownBufs
  refine (SparseCore.bigSep_erase' (ref_own L cc0_scratch0 rfl)).trans ?_
  rw [SparseCore.bigSep_erase' (i := dref L cc0_scratch1) (Finset.mem_erase.mpr ⟨dref_ne L (by decide), ref_own L cc0_scratch1 rfl⟩),
    SparseCore.bigSep_erase' (i := dref L cc0_scratch2) (Finset.mem_erase.mpr ⟨dref_ne L (by decide), Finset.mem_erase.mpr ⟨dref_ne L (by decide),
      ref_own L cc0_scratch2 rfl⟩⟩),
    SparseCore.bigSep_erase' (i := dref L cc0_scratch3) (Finset.mem_erase.mpr ⟨dref_ne L (by decide), Finset.mem_erase.mpr ⟨dref_ne L (by decide),
      Finset.mem_erase.mpr ⟨dref_ne L (by decide), ref_own L cc0_scratch3 rfl⟩⟩⟩),
    SparseCore.bigSep_erase' (i := dref L cc0_scratch4) (Finset.mem_erase.mpr ⟨dref_ne L (by decide), Finset.mem_erase.mpr ⟨dref_ne L (by decide),
      Finset.mem_erase.mpr ⟨dref_ne L (by decide), Finset.mem_erase.mpr ⟨dref_ne L (by decide), ref_own L cc0_scratch4 rfl⟩⟩⟩⟩)]

/-! ## The task -/

variable [FloatOps F]
variable (x : Buf (Elt F) (xLoc d)) (w : Buf (Elt F) (mLoc d)) (t : Buf (Elt F) (tLoc d)) (q : PosShare TreeShare)

/-- What tile `i` is handed: a share of each input, the part of each output that it writes; -/
abbrev goPts (i : Fin 16) (fo : Buf (Elt F) (oLoc d)) (fp : Buf (Elt F) (pLoc d)) : sProp 𝕄 :=
  iprop((xLoc d ↦{q} x) ∗ (mLoc d ↦{q} w) ∗ (tLoc d ↦{q} t) ∗ (oLoc d ↦[part i]{fullShare} fo) ∗ pLoc d ↦[part i]{fullShare} fp)

omit [FloatOps F]

/-- The batch row at place `l` of tile `L 1`'s 1024. -/
def rowL (L : grid0.Coords) (l : Fin 1024) : Fin 16384 := ⟨1024 * (L 1).val + l.val, by
  have h : (L 1).val < 16 := (L 1).isLt
  omega⟩

/-- The tile's columns of the transposed batch, and its classes. -/
def sliceX : S100x1024.Idx → Elt F .f32 := fun j => (x : S100x16384.Idx → Elt F .f32) (ix2 (j 0) (rowL L (j 1)))
def sliceT : S1024.Idx → Elt F .i32 := fun j => (t : S16384.Idx → Elt F .i32) (ix1 (rowL L (j 0)))

abbrev xK (L : grid0.Coords) : Memref sig .scVector .hbm S100x1024 .f32 :=
  (xV).slice (Rect.unit (s := S100x16384) (k0_off1 L) S100x1024.size (k0_off1_inb L)) (fun _ => rfl)
abbrev tK (L : grid0.Coords) : Memref sig .scVector .hbm S1024 .i32 :=
  (tV).slice (Rect.unit (s := S16384) (k0_off2 L) S1024.size (k0_off2_inb L)) (fun _ => rfl)

theorem write_b0 (f : Buf (Elt F) ((V d (cV L) (jV L)).loc cc0_scratch0)) :
    View.write (Elt F) (b0V).view f ((xK L).view.read (Elt F) x) Finset.univ = sliceX d L x := by
  rw [View.write_whole_univ]
  funext j
  refine (View.read_apply _ _).trans ((cast_eq _ _).trans ?_)
  unfold sliceX
  congr 1
  funext a
  apply Fin.ext
  have e := k0_off1_eq L
  match a with
  | 0 => show (k0_off1 L) 0 + 1 * (j 0).val = (j 0).val; rw [e]; simp
  | 1 => show (k0_off1 L) 1 + 1 * (j 1).val = 1024 * (L 1).val + (j 1).val; rw [e]; simp

theorem write_b1 (f : Buf (Elt F) ((V d (cV L) (jV L)).loc cc0_scratch1)) :
    View.write (Elt F) (b1V).view f ((tK L).view.read (Elt F) t) Finset.univ = sliceT d L t := by
  rw [View.write_whole_univ]
  funext j
  refine (View.read_apply _ _).trans ((cast_eq _ _).trans ?_)
  unfold sliceT
  congr 1
  funext a
  apply Fin.ext
  have e := k0_off2_eq L
  match a with
  | 0 => show (k0_off2 L) 0 + 1 * (j 0).val = 1024 * (L 1).val + (j 0).val; rw [e]; simp

theorem write_b2 (f : Buf (Elt F) ((V d (cV L) (jV L)).loc cc0_scratch2)) :
    View.write (Elt F) (b2V).view f ((mV).view.read (Elt F) w) Finset.univ = w := by
  rw [View.write_whole_univ]
  rfl

/-- Place `z` of trip `k`'s sixteen. -/
def lane (k : Fin k0_t1_loop.trips) (z : Fin 16) : Fin 1024 := ⟨16 * k.val + z.val, by
  have h : k.val < 64 := k.isLt
  omega⟩

/-- The sixteen classes trip `k` loads; -/
abbrev loadT (k : Fin k0_t1_loop.trips) : IVec S16 32 :=
  View.readAt (Elt F) (b1V).view (Rect.unit (s := S1024) (k0_off3 k) S16.size (k0_off3_inb k)).toLoadRect (sliceT d L t)

theorem loadT_apply (k : Fin k0_t1_loop.trips) (z : S16.Idx) :
    loadT d L t k z = (t : S16384.Idx → Elt F .i32) (ix1 (rowL L (lane k (z 0)))) := by
  show sliceT d L t ((Rect.unit (s := S1024) (k0_off3 k) S16.size (k0_off3_inb k)).toLoadRect.idx z) = _
  unfold sliceT
  congr 2
  apply Fin.ext
  have e := k0_off3_eq k
  show 1024 * (L 1).val + ((k0_off3 k) 0 + 1 * (z 0).val) = 1024 * (L 1).val + (16 * k.val + (z 0).val)
  rw [e]; simp

/-- and the sixteen places themselves. -/
theorem pay1_toNat (k : Fin k0_t1_loop.trips) (z : S16.Idx) : (k0_pay1 k z).toNat = (lane k (z 0)).val := by
  have hk : k.val < 64 := k.isLt
  have hz : (z 0).val < 16 := (z 0).isLt
  have h : ∀ (k : Fin 64) (z : Fin 16), (k0_pay1 k (ix1 z)).toNat = 16 * k.val + z.val := by decide +kernel
  obtain ⟨a, rfl⟩ : ∃ a : Fin 16, z = ix1 a := ⟨z 0, eq_ix1 z⟩
  exact h k a

theorem chk_ok (ht : ∀ r : S16384.Idx, ((t : S16384.Idx → BitVec 32) r).toNat < 100) (k : Fin k0_t1_loop.trips) :
    k0_chk1 (k0_pay1 k) (loadT d L t k) := by
  have h1 : ∀ z, (loadT d L t k z).toNat < 100 := fun z => by rw [loadT_apply]; exact ht _
  refine ⟨fun a z => ?_, fun a z => ?_⟩
  · match a with
    | 0 => exact h1 z
  · match a with
    | 0 => exact h1 z
    | 1 => show (k0_pay1 k z).toNat < 1024; rw [pay1_toNat]; exact (lane k (z 0)).isLt

theorem loadM_apply (k : Fin k0_t1_loop.trips) (ht : ∀ r : S16384.Idx, ((t : S16384.Idx → BitVec 32) r).toNat < 100)
    (h : ∀ a z, ((![loadT d L t k] : Fin 1 → IVec S16 32) a z).toNat < S100.size a) (z : S16.Idx) :
    loadIdx (((b2V).access (.whole S100)).read (Elt F) w) ![loadT d L t k] h z = gatherM (α := Elt F .f32) w t (rowL L (lane k (z 0))) := by
  show (w : S100.Idx → Elt F .f32) _ = _
  unfold gatherM
  congr 1
  funext a
  apply Fin.ext
  match a with
  | 0 =>
    show 0 + 1 * (loadT d L t k z).toNat = ((t : S16384.Idx → BitVec 32) (ix1 (rowL L (lane k (z 0))))).toNat % 100
    rw [loadT_apply, Nat.mod_eq_of_lt (ht _)]; omega

theorem loadX_apply (k : Fin k0_t1_loop.trips) (ht : ∀ r : S16384.Idx, ((t : S16384.Idx → BitVec 32) r).toNat < 100)
    (h : ∀ a z, ((![loadT d L t k, k0_pay1 k] : Fin 2 → IVec S16 32) a z).toNat < S100x1024.size a) (z : S16.Idx) :
    loadIdx (((b0V).access (.whole S100x1024)).read (Elt F) (sliceX d L x)) ![loadT d L t k, k0_pay1 k] h z
      = gatherX (α := Elt F .f32) x t (rowL L (lane k (z 0))) := by
  show (x : S100x16384.Idx → Elt F .f32) _ = _
  unfold gatherX
  congr 1
  funext a
  apply Fin.ext
  match a with
  | 0 =>
    show 0 + 1 * (loadT d L t k z).toNat = ((t : S16384.Idx → BitVec 32) (ix1 (rowL L (lane k (z 0))))).toNat % 100
    rw [loadT_apply, Nat.mod_eq_of_lt (ht _)]; omega
  | 1 =>
    show 1024 * (L 1).val + (0 + 1 * (k0_pay1 k z).toNat) = 1024 * (L 1).val + (lane k (z 0)).val
    rw [pay1_toNat]; omega

/-- A store of sixteen right values at trip `k`'s places makes the places below `16 (k + 1)` right. -/
theorem store_step (m : Memref sig .scVector .vmem S1024 .f32) (f : m.view.ty.Contents (Elt F)) (k : Fin k0_t1_loop.trips)
    (off : Fin 1 → ℕ) (hoff : off = ![16 * k.val]) (inb : ∀ a, off a + S16.size a ≤ S1024.size a) (v : S16.Idx → Elt F .f32)
    (G : Fin 1024 → Elt F .f32) (hv : ∀ z, v z = G (lane k (z 0)))
    (hf : ∀ l : Fin 1024, l.val < 16 * k.val → m.view.read (Elt F) f (ix1 l) = G l) (l : Fin 1024) (hl : l.val < 16 * (k.val + 1)) :
    m.view.read (Elt F) (m.view.writes (Elt F) f [⟨Rect.unit (s := S1024) off S16.size inb, v⟩]) (ix1 l) = G l := by
  subst hoff
  by_cases hlt : l.val < 16 * k.val
  · rw [View.read_writes_cons_miss_of_axis _ _ _ _ _ (0 : Fin 1) (16 * k.val) 16 rfl rfl rfl (.inl hlt)]
    exact hf l hlt
  · have hz : l.val - 16 * k.val < 16 := by omega
    rw [View.read_writes_cons_hit_of_coords _ _ _ _ _ (ix1 ⟨l.val - 16 * k.val, hz⟩ : S16.Idx) _ (fun a => by
      match a with
      | 0 => show l.val = 16 * k.val + 1 * (l.val - 16 * k.val); omega)]
    rw [hv]
    congr 1
    apply Fin.ext
    show 16 * k.val + (l.val - 16 * k.val) = l.val
    omega

/-! ## Where a tile's copies out land -/

theorem rowOf_emb (z : S1024.Idx) :
    rowOf ((orect L).emb (Shape.reshapeEquiv squeezes_S1x1x1024_S1024.numel_eq z)) = rowL L (z 0) := by
  have hz : (z 0).val < 1024 := (z 0).isLt
  have e : Shape.reshapeEquiv squeezes_S1x1x1024_S1024.numel_eq z = (ix3 0 0 (z 0) : S1x1x1024.Idx) := by
    apply Shape.reshapeEquiv_eq_of_rowMajor
    rw [Shape.rowMajor_val_three, Shape.rowMajor_val_one]
    show (0 * 1 + 0) * 1024 + (z 0).val = (z 0).val
    omega
  rw [e]
  apply Fin.ext
  have hj : (L 1).val < 16 := (L 1).isLt
  show 2048 * ((k0_off6 L) 0 + 1 * 0) + ((k0_off6 L) 2 + 1 * (z 0).val) = 1024 * (L 1).val + (z 0).val
  rw [k0_off6_eq]
  simp only [Matrix.cons_val_zero, Matrix.cons_val]
  omega

theorem pts_out_o (f : Buf (Elt F) (oLoc d)) (g : S1024.Idx → Elt F .f32) (y : S16384.Idx → Elt F .f32)
    (hg : ∀ l, g (ix1 l) = y (ix1 (rowL L l))) :
    ((oK L).view.loc (V d (cV L) (jV L)) ↦[(oK L).view.set]{fullShare} (oK L).view.writes (Elt F) f [⟨Rect.whole S1024, g⟩] : sProp 𝕄)
      = oLoc d ↦[part (jL L)]{fullShare} (fun i => y (ix1 (rowOf i)) : S8x1x2048.Idx → Elt F .f32) := by
  rw [← set_oK]
  refine pointsTo_congr fun i hi => ?_
  obtain ⟨z, -, rfl⟩ := Finset.mem_map.mp hi
  obtain ⟨l, rfl⟩ : ∃ l : Fin 1024, z = ix1 l := ⟨z 0, eq_ix1 z⟩
  have h1 := View.read_writes_cons_hit_of_coords (oK L).view f (Rect.whole S1024) g [] (ix1 l) (ix1 l) (fun a => by
    show ((ix1 l : S1024.Idx) a).val = 0 + 1 * ((ix1 l : S1024.Idx) a).val; omega)
  rw [View.read_apply] at h1
  refine ((cast_eq _ _).symm.trans h1).trans ?_
  rw [hg]
  exact congrArg (fun r => y (ix1 r)) (rowOf_emb L (ix1 l)).symm

theorem pts_out_p (f : Buf (Elt F) (pLoc d)) (g : S1024.Idx → Elt F .f32) (y : S16384.Idx → Elt F .f32)
    (hg : ∀ l, g (ix1 l) = y (ix1 (rowL L l))) :
    ((pK L).view.loc (V d (cV L) (jV L)) ↦[(pK L).view.set]{fullShare} (pK L).view.writes (Elt F) f [⟨Rect.whole S1024, g⟩] : sProp 𝕄)
      = pLoc d ↦[part (jL L)]{fullShare} (fun i => y (ix1 (rowOf i)) : S8x1x2048.Idx → Elt F .f32) := by
  rw [← set_pK]
  refine pointsTo_congr fun i hi => ?_
  obtain ⟨z, -, rfl⟩ := Finset.mem_map.mp hi
  obtain ⟨l, rfl⟩ : ∃ l : Fin 1024, z = ix1 l := ⟨z 0, eq_ix1 z⟩
  have h1 := View.read_writes_cons_hit_of_coords (pK L).view f (Rect.whole S1024) g [] (ix1 l) (ix1 l) (fun a => by
    show ((ix1 l : S1024.Idx) a).val = 0 + 1 * ((ix1 l : S1024.Idx) a).val; omega)
  rw [View.read_apply] at h1
  refine ((cast_eq _ _).symm.trans h1).trans ?_
  rw [hg]
  exact congrArg (fun r => y (ix1 r)) (rowOf_emb L (ix1 l)).symm

variable [FloatOps F]

/-- Before trip `k` of the gather loop: the three fetched buffers, and the two result buffers right at the places below `16 k`. -/
def inv (O : CellTallies nD τ sig (HIx 1)) (k : Nat) (_ : PUnit) : sProp 𝕄 :=
  iprop(((b0V).view.loc (V d (cV L) (jV L)) ↦{fullShare} sliceX d L x)
    ∗ ((b1V).view.loc (V d (cV L) (jV L)) ↦{fullShare} sliceT d L t)
    ∗ ((b2V).view.loc (V d (cV L) (jV L)) ↦{fullShare} w)
    ∗ (∃ f, ⌜∀ l : Fin 1024, l.val < 16 * k → (f : S1024.Idx → Elt F .f32) (ix1 l) = gatherX (α := Elt F .f32) x t (rowL L l)⌝
        ∗ (b3V).view.loc (V d (cV L) (jV L)) ↦{fullShare} f)
    ∗ (∃ f, ⌜∀ l : Fin 1024, l.val < 16 * k → (f : S1024.Idx → Elt F .f32) (ix1 l) = gatherM (α := Elt F .f32) w t (rowL L l)⌝
        ∗ (b4V).view.loc (V d (cV L) (jV L)) ↦{fullShare} f))

set_option maxHeartbeats 4000000 in
theorem tile_body (hF : (K (F := F)).Facts) (ht : ∀ r : S16384.Idx, ((t : S16384.Idx → BitVec 32) r).toNat < 100) (fo : Buf (Elt F) (oLoc d)) (fp : Buf (Elt F) (pLoc d))
    (O : CellTallies nD τ sig (HIx 1)) (W : Waits sig (HIx 1)) (hO : ∀ g, O g none = 0) :
    iprop(levAts (K (F := F)).L (K (F := F)).lev ∗ emp
        ∗ goPts d x w t q (jL L) fo fp
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_body L xV (Memref.isWhole_whole _) mV (Memref.isWhole_whole _) tV (Memref.isWhole_whole _) oV (Memref.isWhole_whole _)
            pV (Memref.isWhole_whole _) b0V (Memref.isWhole_whole _) b1V (Memref.isWhole_whole _) b2V (Memref.isWhole_whole _)
            b3V (Memref.isWhole_whole _) b4V (Memref.isWhole_whole _) cc0_scoped0 cc0_scoped1 cc0_scoped2 cc0_scoped3 cc0_scoped4)
          fun _ => iprop(goPts d x w t q (jL L) (xt (α := Elt F .f32) x t) (mt (α := Elt F .f32) w t)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_body_eq_skeleton]; unfold cc0__sc_body_skel
  simp only [k0_part1_eq_skeleton]; unfold k0_part1_skel
  rw [(K (F := F)).scopedBufs_V hF d (cV L) (jV L), SparseCore.Cfg.scopedSems0_V (Val := Elt F) d (cV L) (jV L), ownSems0_V, ownBufs_V]
  iintro ⟨#Hlv, -, ⟨Hx, Hw, Ht, Ho, Hp⟩, ⟨⟨%f0, H0⟩, ⟨%f1, H1⟩, ⟨%f2, H2⟩, ⟨%f3, H3⟩, ⟨%f4, H4⟩, Hbufs⟩, ⟨Hs0, Hs1, Hs2, Hs3, Hs4, Hsems⟩, HO⟩
  ihave Hmw := (show (levAts (K (F := F)).L (K (F := F)).lev : sProp 𝕄) ⊢ Transfers.MayWaits (V d (cV L) (jV L)) (default : HIx 1) O from
    (K (F := F)).mayWaits_none (thr := V d (cV L) (jV L)) hO) $$ Hlv
  ihave Hx' := (Entails.of_eq (pts_xV (F := F) d L q _).symm) $$ Hx
  ihave Hw' := (Entails.of_eq (pts_mV (F := F) d L q _).symm) $$ Hw
  ihave Ht' := (Entails.of_eq (pts_tV (F := F) d L q _).symm) $$ Ht
  ihave Ho' := (Entails.of_eq (pts_oK (F := F) d L _).symm) $$ Ho
  ihave Hp' := (Entails.of_eq (pts_pK (F := F) d L _).symm) $$ Hp
  ihave H0' := (Entails.of_eq (pts_b0 (F := F) d L _).symm) $$ H0
  ihave H1' := (Entails.of_eq (pts_b1 (F := F) d L _).symm) $$ H1
  ihave H2' := (Entails.of_eq (pts_b2 (F := F) d L _).symm) $$ H2
  ihave H3' := (Entails.of_eq (pts_b3 (F := F) d L _).symm) $$ H3
  ihave H4' := (Entails.of_eq (pts_b4 (F := F) d L _).symm) $$ H4
  sl_exec
  ihave H0 := (Entails.of_eq (show ((b0V).view.loc (V d (cV L) (jV L)) ↦{fullShare} View.write (Elt F) (b0V).view f0 (tile_body.sl.dma0 d L x) Finset.univ : sProp 𝕄)
    = (b0V).view.loc (V d (cV L) (jV L)) ↦{fullShare} sliceX d L x from congrArg _ (write_b0 (F := F) d L x f0))) $$ H0'
  ihave H1 := (Entails.of_eq (show ((b1V).view.loc (V d (cV L) (jV L)) ↦{fullShare} View.write (Elt F) (b1V).view f1 (tile_body.sl.dma0_1 d L t) Finset.univ : sProp 𝕄)
    = (b1V).view.loc (V d (cV L) (jV L)) ↦{fullShare} sliceT d L t from congrArg _ (write_b1 (F := F) d L t f1))) $$ H1'
  ihave H2 := (Entails.of_eq (show ((b2V).view.loc (V d (cV L) (jV L)) ↦{fullShare} View.write (Elt F) (b2V).view f2 (tile_body.sl.dma0_2 d w) Finset.univ : sProp 𝕄)
    = (b2V).view.loc (V d (cV L) (jV L)) ↦{fullShare} w from congrArg _ (write_b2 (F := F) d L w f2))) $$ H2'
  rw [wp_bind]
  sl_for (inv d L x w t O) $$ [H0 H1 H2 H3' H4']
  case region =>
    intro k _
    unfold inv
    iintro ⟨H0, H1, H2, ⟨%g3, %hg3, H3⟩, ⟨%g4, %hg4, H4⟩⟩
    have hc := chk_ok (F := F) d L t ht k
    sl_exec
    iapply (SparseCore.wp_vectorLoadIdx (base := b2V) (S := Finset.univ) 𝒱₀ (V d (cV L) (jV L)) none Set.univ (Finset.subset_univ _)) $$ H2
    iintro H2
    ihave H2 := (Entails.of_eq (show (((b2V).access (.whole S100)).loc (V d (cV L) (jV L)) ↦{fullShare} w : sProp 𝕄)
      = (b2V).view.loc (V d (cV L) (jV L)) ↦{fullShare} w from rfl)) $$ H2
    sl_exec
    iapply (SparseCore.wp_vectorLoadIdx (base := b0V) (S := Finset.univ) 𝒱₀ (V d (cV L) (jV L)) none Set.univ (Finset.subset_univ _)) $$ H0
    iintro H0
    ihave H0 := (Entails.of_eq (show (((b0V).access (.whole S100x1024)).loc (V d (cV L) (jV L)) ↦{fullShare} sliceX d L x : sProp 𝕄)
      = (b0V).view.loc (V d (cV L) (jV L)) ↦{fullShare} sliceX d L x from rfl)) $$ H0
    sl_exec
    sl_step
    isplitl [H0]; · iexact H0
    isplitl [H1]; · iexact H1
    isplitl [H2]; · iexact H2
    isplitl [H3]
    · iexists _; isplitr
      swap; · iexact H3
      ipureintro
      exact store_step b3V g3 k _ (k0_off5_eq k) _ _ _ (loadX_apply d L x t k ht _) hg3
    · iexists _; isplitr
      swap; · iexact H4
      ipureintro
      exact store_step b4V g4 k _ (k0_off4_eq k) _ _ _ (loadM_apply d L w t k ht _) hg4
  · unfold inv
    isplitl [H0]; · iexact H0
    isplitl [H1]; · iexact H1
    isplitl [H2]; · iexact H2
    isplitl [H3']
    · iexists _; isplitr
      swap; · iexact H3'
      ipureintro; intro l hl; omega
    · iexists _; isplitr
      swap; · iexact H4'
      ipureintro; intro l hl; omega
  iintro %_ HI
  unfold inv
  icases HI with ⟨H0, H1, H2, ⟨%g3, %hg3, H3⟩, ⟨%g4, %hg4, H4⟩⟩
  sl_exec
  ihave Ho := (Entails.of_eq (show ((oK L).view.loc (V d (cV L) (jV L)) ↦[(oK L).view.set]{fullShare}
      (oK L).view.writes (Elt F) fo [⟨Rect.whole S1024, tile_body.sl.dma0_3 g3⟩] : sProp 𝕄)
      = oLoc d ↦[part (jL L)]{fullShare} xt (α := Elt F .f32) x t from
    pts_out_o (F := F) d L fo g3 (fun r => gatherX (α := Elt F .f32) x t (r 0)) (fun l => hg3 l l.isLt))) $$ Ho'
  ihave Hp := (Entails.of_eq (show ((pK L).view.loc (V d (cV L) (jV L)) ↦[(pK L).view.set]{fullShare}
      (pK L).view.writes (Elt F) fp [⟨Rect.whole S1024, tile_body.sl.dma0_4 g4⟩] : sProp 𝕄)
      = pLoc d ↦[part (jL L)]{fullShare} mt (α := Elt F .f32) w t from
    pts_out_p (F := F) d L fp g4 (fun r => gatherM (α := Elt F .f32) w t (r 0)) (fun l => hg4 l l.isLt))) $$ Hp'
  sl_step
  isplitl [Hx' Hw' Ht' Ho Hp]
  · isplitl [Hx']; · iexact Hx'
    isplitl [Hw']; · iexact Hw'
    isplitl [Ht']; · iexact Ht'
    isplitl [Ho]; · iexact Ho
    iexact Hp
  isplitl [H0 H1 H2 H3 H4 Hbufs]
  · isplitl [H0]; · iexists _; iexact H0
    isplitl [H1]; · iexists _; iexact H1
    isplitl [H2]; · iexists _; iexact H2
    isplitl [H3]; · iexists _; iexact H3
    isplitl [H4]; · iexists _; iexact H4
    iexact Hbufs
  isplitl [Hs0 Hs1 Hs2 Hs3 Hs4 Hsems]
  · isplitl [Hs0]; · iexact Hs0
    isplitl [Hs1]; · iexact Hs1
    isplitl [Hs2]; · iexact Hs2
    isplitl [Hs3]; · iexact Hs3
    isplitl [Hs4]; · iexact Hs4
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

end Cert.Proof.KernelIdeal

end
-- ==== Proof.KernelIdeal.Block.lean ====
/-
  The TensorCore kernel's body, once per kind of grid point: what one block's pass leaves in the accumulator.
-/
module

public import proofs.«01_k».proof.Proof.KernelIdeal.Setup
public import proofs.«01_k».proof.Proof.Gen.KernelIdeal.Launch
public import proofs.«01_k».proof.Proof.Gen.KernelIdeal.Points
public import Idealize.ShloMosaic.Lib.Pipeline.FrameBody
public import Idealize.ShloMosaic.Lib.Pipeline.Value

@[expose] public section

noncomputable section

namespace Cert.Proof.KernelIdeal

open Cert.KernelIdeal Cert.KernelIdeal.Gen
open Idealize.ShloMosaic Idealize.ShloMosaic.ValueIdx
open Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- A memref's buffer on core `c`, held whole at `f`. -/
abbrev wpt (c : Dev nD) {sp : Space} {S : Shape} {e : EltTy} (M : Memref sig .tc sp S e) (f : Buf (Elt F) (M.view.loc (c : Thread nD τ))) : sProp 𝕄 :=
  M.view.loc (c : Thread nD τ) ↦{fullShare} f

/-- The accumulator's next value from its value `a` and a block's loss `v`: the first block starts from zero, the last one
    scales. -/
def accStep (n : ℕ) (a v : F .f32) : F .f32 :=
  if n = 0 then k1_pay1 v (Scalar.ofBits .f32 0x00000000#32) else if n = 7 then k1_pay2 (k1_pay1 v a) else k1_pay1 v a

section Body

variable (c : Dev nD) (i : grid1.Coords)
  (M1 : Memref sig .tc .vmem S100x2048 .f32) (h1 : M1.IsWhole) (M2 : Memref sig .tc .vmem S1x1x2048 .f32) (h2 : M2.IsWhole)
  (M3 : Memref sig .tc .vmem S1x1x2048 .f32) (h3 : M3.IsWhole) (M4 : Memref sig .tc .smem S1x1 .f32) (h4 : M4.IsWhole)
  (x : Vec F S100x2048 .f32) (y z : Vec F S1x1x2048 .f32) (a : F .f32)

theorem off2 : (![0, 0] : Fin 2 → ℕ) = fun _ => 0 := funext fun a => by fin_cases a <;> rfl
/-- A store of the accumulator's one cell, last, is what the accumulator then reads. -/
theorem read_stored {κ : Kind} {sp : Space} (v : View sig κ sp S1x1 .f32) (f : v.ty.Contents (Elt F)) (w : S1x1.Idx → Elt F .f32)
    (L : List (View.Piece (Elt F) S1x1 .f32)) :
    v.read (Elt F) (v.writes (Elt F) f (⟨Rect.unit ![0, 0] S1x1.size inb_S1x1_S1x1_0_0, w⟩ :: L)) = w := by
  rw [View.read_writes_eq_canon v f _ (fun j => ⟨⟨Rect.unit ![0, 0] S1x1.size inb_S1x1_S1x1_0_0, w⟩, List.mem_cons_self,
    View.mem_set_unit_zero (S := S1x1) (off := ![0, 0]) off2 inb_S1x1_S1x1_0_0 j⟩)]
  exact View.canon_cons_unit_zero (S := S1x1) off2 _ w L

/-- The grid test's word for a point that is not the one tested for. -/
theorem point_ne {n k : ℕ} (hn : n < 8) (hk : k < 8) (h : n ≠ k) :
    Scalar.cmpi .ne (Scalar.extui (Scalar.cmpi .eq (BitVec.ofNat 32 n) (BitVec.ofNat 32 k)) : BitVec 32) 0#32 ≠ 1#1 := by
  interval_cases n <;> interval_cases k <;> first | exact absurd rfl h | decide

theorem off3 : (![0, 0, 0] : Fin 3 → ℕ) = fun _ => 0 := funext fun a => by fin_cases a <;> rfl

/-- The first block: the accumulator, whatever it held, ends at the block's loss added to zero. -/
theorem body_first (hi : (i 0).val = 0) (f4 : Buf (Elt F) (M4.view.loc (c : Thread nD τ))) (E : Set ℕ) (Q : PUnit → sProp 𝕄) :
    iprop(wpt c M1 (h1.unread x) ∗ wpt c M2 (h2.unread y) ∗ wpt c M3 (h3.unread z) ∗ wpt c M4 f4
        ∗ (iprop(wpt c M1 (h1.unread x) ∗ wpt c M2 (h2.unread y) ∗ wpt c M3 (h3.unread z)
            ∗ ∃ f, ⌜M4.view.read (Elt F) f = fun _ => accStep (i 0).val (Scalar.ofBits .f32 0x00000000#32) (k1_pay3 x y z)⌝ ∗ wpt c M4 f) -∗ Q ⟨⟩))
      ⊢ wp frame (wpE (defs₀ (F := F)) 𝒱₀ c none) E (cc1__tc_block i M1 h1 M2 h2 M3 h3 M4 h4) Q := by
  rw [cc1__tc_block_eq_skeleton]
  unfold cc1__tc_block_skel
  rw [k1_part1_eq_skeleton]
  unfold k1_part1_skel
  rw [hi]
  iintro ⟨H1, H2, H3, H4, Hk⟩
  sl_exec!
  sl_step
  iapply Hk
  isplitl [H1]; · iexact H1
  isplitl [H2]; · iexact H2
  isplitl [H3]; · iexact H3
  iexists _
  isplitr; swap; (· iexact H4)
  ipureintro
  sl_unfold_words
  refine (read_stored (F := F) M4.view _ _ _).trans ?_
  simp only [View.readAt_eq_ld, h1.read_unread, h2.read_unread, h3.read_unread, h4.read_unread, View.ld_unit_zero (S := S100x2048) off2, View.ld_unit_zero (S := S1x1x2048) off3, View.ld_unit_zero (S := S1x1) off2]
  unfold accStep; rw [if_pos rfl]; rfl

/-- A middle block: its loss is added. -/
theorem body_mid (hi : (i 0).val ≠ 0) (hi' : (i 0).val ≠ 7) (E : Set ℕ) (Q : PUnit → sProp 𝕄) :
    iprop(wpt c M1 (h1.unread x) ∗ wpt c M2 (h2.unread y) ∗ wpt c M3 (h3.unread z) ∗ wpt c M4 (h4.unread fun _ => a)
        ∗ (iprop(wpt c M1 (h1.unread x) ∗ wpt c M2 (h2.unread y) ∗ wpt c M3 (h3.unread z)
            ∗ ∃ f, ⌜M4.view.read (Elt F) f = fun _ => accStep (i 0).val a (k1_pay3 x y z)⌝ ∗ wpt c M4 f) -∗ Q ⟨⟩))
      ⊢ wp frame (wpE (defs₀ (F := F)) 𝒱₀ c none) E (cc1__tc_block i M1 h1 M2 h2 M3 h3 M4 h4) Q := by
  rw [cc1__tc_block_eq_skeleton]
  unfold cc1__tc_block_skel
  rw [k1_part1_eq_skeleton]
  unfold k1_part1_skel
  have hlt : (i 0).val < 8 := (i 0).isLt
  have hc := point_ne hlt (by decide : 0 < 8) hi
  have hc' := point_ne hlt (by decide : 7 < 8) hi'
  iintro ⟨H1, H2, H3, H4, Hk⟩
  sl_exec!
  sl_step
  iapply Hk
  isplitl [H1]; · iexact H1
  isplitl [H2]; · iexact H2
  isplitl [H3]; · iexact H3
  iexists _
  isplitr; swap; (· iexact H4)
  ipureintro
  sl_unfold_words
  simp only [dif_neg hc, dif_neg hc']
  refine (read_stored (F := F) M4.view _ _ _).trans ?_
  simp only [View.readAt_eq_ld, h1.read_unread, h2.read_unread, h3.read_unread, h4.read_unread, View.ld_unit_zero (S := S100x2048) off2, View.ld_unit_zero (S := S1x1x2048) off3, View.ld_unit_zero (S := S1x1) off2]
  unfold accStep
  rw [if_neg hi, if_neg hi']
  rfl

/-- The last block: its loss is added and the sum scaled. -/
theorem body_last (hi : (i 0).val = 7) (E : Set ℕ) (Q : PUnit → sProp 𝕄) :
    iprop(wpt c M1 (h1.unread x) ∗ wpt c M2 (h2.unread y) ∗ wpt c M3 (h3.unread z) ∗ wpt c M4 (h4.unread fun _ => a)
        ∗ (iprop(wpt c M1 (h1.unread x) ∗ wpt c M2 (h2.unread y) ∗ wpt c M3 (h3.unread z)
            ∗ ∃ f, ⌜M4.view.read (Elt F) f = fun _ => accStep (i 0).val a (k1_pay3 x y z)⌝ ∗ wpt c M4 f) -∗ Q ⟨⟩))
      ⊢ wp frame (wpE (defs₀ (F := F)) 𝒱₀ c none) E (cc1__tc_block i M1 h1 M2 h2 M3 h3 M4 h4) Q := by
  rw [cc1__tc_block_eq_skeleton]
  unfold cc1__tc_block_skel
  rw [k1_part1_eq_skeleton]
  unfold k1_part1_skel
  rw [hi]
  iintro ⟨H1, H2, H3, H4, Hk⟩
  sl_exec!
  sl_step
  iapply Hk
  isplitl [H1]; · iexact H1
  isplitl [H2]; · iexact H2
  isplitl [H3]; · iexact H3
  iexists _
  isplitr; swap; (· iexact H4)
  ipureintro
  sl_unfold_words
  refine (read_stored (F := F) M4.view _ _ _).trans ?_
  simp only [View.readAt_eq_ld, h1.read_unread, h2.read_unread, h3.read_unread, h4.read_unread, View.ld_unit_zero (S := S100x2048) off2, View.ld_unit_zero (S := S1x1x2048) off3, View.ld_unit_zero (S := S1x1) off2]
  unfold accStep
  rw [if_neg (by decide), if_pos rfl]
  rfl

/-- Any block: the accumulator at `a` (at anything, for the first block) ends one step on. -/
theorem body_step (f4 : Buf (Elt F) (M4.view.loc (c : Thread nD τ))) (ha : (i 0).val ≠ 0 → M4.view.read (Elt F) f4 = fun _ => a)
    (E : Set ℕ) (Q : PUnit → sProp 𝕄) :
    iprop(wpt c M1 (h1.unread x) ∗ wpt c M2 (h2.unread y) ∗ wpt c M3 (h3.unread z) ∗ wpt c M4 f4
        ∗ (iprop(wpt c M1 (h1.unread x) ∗ wpt c M2 (h2.unread y) ∗ wpt c M3 (h3.unread z)
            ∗ ∃ f, ⌜M4.view.read (Elt F) f = fun _ => accStep (i 0).val a (k1_pay3 x y z)⌝ ∗ wpt c M4 f) -∗ Q ⟨⟩))
      ⊢ wp frame (wpE (defs₀ (F := F)) 𝒱₀ c none) E (cc1__tc_block i M1 h1 M2 h2 M3 h3 M4 h4) Q := by
  by_cases h0 : (i 0).val = 0
  · have e : accStep (i 0).val a (k1_pay3 x y z) = accStep (i 0).val (Scalar.ofBits .f32 0x00000000#32) (k1_pay3 x y z) := by
      unfold accStep; rw [if_pos h0, if_pos h0]
    rw [e]
    exact body_first c i M1 h1 M2 h2 M3 h3 M4 h4 x y z h0 f4 E Q
  · obtain rfl := h4.eq_unread (ha h0)
    by_cases h7 : (i 0).val = 7
    · exact body_last c i M1 h1 M2 h2 M3 h3 M4 h4 x y z a h7 E Q
    · exact body_mid c i M1 h1 M2 h2 M3 h3 M4 h4 x y z a h0 h7 E Q

end Body

end Cert.Proof.KernelIdeal

end
-- ==== Proof.KernelIdeal.Region.lean ====
/-
  The TensorCore kernel as a region of @main: the accumulator after each grid point, and the array it ends in.
-/
module

public import proofs.«01_k».proof.Proof.KernelIdeal.Block

@[expose] public section

noncomputable section

namespace Cert.Proof.KernelIdeal

open Cert.KernelIdeal Cert.KernelIdeal.Gen
open Idealize.ShloMosaic Idealize.ShloMosaic.ValueIdx
open Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig (HIx 1) (Elt F) ℕ UU ℕ

/-- The contents of the arrays the region reads, and of the result's before it. -/
structure Entry (F : FTy → Type) where
  x : (c : Dev nD) → Buf (Elt F) (xLoc c)
  o : (c : Dev nD) → Buf (Elt F) (oLoc c)
  p : (c : Dev nD) → Buf (Elt F) (pLoc c)
  s : (c : Dev nD) → Buf (Elt F) (sLoc c)

variable (V : Entry F) (b : ℕ)

/-- The three input blocks at a point. -/
abbrev blkX (c : Dev nD) (t : Fin cfg1.N) : Vec F S100x2048 .f32 := ((cfg1.win 0).blk t).view.read (Elt F) (V.x c)
abbrev blkO (c : Dev nD) (t : Fin cfg1.N) : Vec F S1x1x2048 .f32 := ((cfg1.win 1).blk t).view.read (Elt F) (V.o c)
abbrev blkP (c : Dev nD) (t : Fin cfg1.N) : Vec F S1x1x2048 .f32 := ((cfg1.win 2).blk t).view.read (Elt F) (V.p c)

/-- A point's block loss. -/
def blockLoss (c : Dev nD) (t : Fin cfg1.N) : F .f32 := k1_pay3 (blkX V c t) (blkO V c t) (blkP V c t)

/-- The accumulator after point `n`. -/
def acc (c : Dev nD) : (n : ℕ) → n < cfg1.N → F .f32
  | 0, h => accStep 0 (Scalar.ofBits .f32 0x00000000#32) (blockLoss V c ⟨0, h⟩)
  | n + 1, h => accStep (n + 1) (acc c n (Nat.lt_of_succ_lt h)) (blockLoss V c ⟨n + 1, h⟩)

/-- The pairs the core may have recorded when the region is entered: those at or below level `b`. -/
def recBelow (c : Dev nD) : Set (SemLoc sig × HIx 1) := {e | (K (F := F)).lev (c.tc, e.1) e.2 ≤ b}

/-- The region's proof data: the arrays at entry; after a point each input block as fetched and the accumulator. -/
def dat (c : Dev nD) : Dat τ (Elt F) (HIx 1) ℕ UU ℕ cfg1 c where
  A w := match w with
    | ⟨0, _⟩ => V.x c
    | ⟨1, _⟩ => V.o c
    | ⟨2, _⟩ => V.p c
    | ⟨3, _⟩ => V.s c
  after w t := match w with
    | ⟨0, _⟩ => blkX V c t
    | ⟨1, _⟩ => blkO V c t
    | ⟨2, _⟩ => blkP V c t
    | ⟨3, _⟩ => fun _ => acc V c t.val t.isLt
  Φ _ := BI.emp
  q _ := fullShare
  owed _ := 0
  recorded _ := recBelow (F := F) b c

theorem before_x (c : Dev nD) (t : Fin cfg1.N) (d) : (dat V b c).before 0 t d = blkX V c t := by
  rw [(dat V b c).before_fetched 0 t (fetch1_0 t) d]; unfold Dat.fetched Dat.blockOf; dsimp only [dat]; rfl
theorem before_o (c : Dev nD) (t : Fin cfg1.N) (d) : (dat V b c).before 1 t d = blkO V c t := by
  rw [(dat V b c).before_fetched 1 t (fetch1_1 t) d]; unfold Dat.fetched Dat.blockOf; dsimp only [dat]; rfl
theorem before_p (c : Dev nD) (t : Fin cfg1.N) (d) : (dat V b c).before 2 t d = blkP V c t := by
  rw [(dat V b c).before_fetched 2 t (fetch1_2 t) d]; unfold Dat.fetched Dat.blockOf; dsimp only [dat]; rfl
theorem before_s (c : Dev nD) (n : ℕ) (h : n + 1 < cfg1.N) (d) :
    (dat V b c).before 3 ⟨n + 1, h⟩ d = fun _ => acc V c n (Nat.lt_of_succ_lt h) := by
  have hN : cfg1.N = 8 := N_1
  rw [(dat V b c).before_out_kept 3 rfl ⟨n + 1, h⟩ (by simp) (by
    rw [Bool.eq_false_iff]; intro hf
    have := (flush1_3 _).mp hf
    simp only [Nat.add_sub_cancel] at this
    omega) (fun _ => rfl) (fun _ _ => rfl) d]
  rfl

theorem coords_val (t : Fin cfg1.N) : ((grid1.coords t) 0).val = t.val := by
  rcases fin_N1 t with rfl | rfl | rfl | rfl | rfl | rfl | rfl | rfl <;> decide

/-- A whole memref owned is its buffer held whole, at contents that read so. -/
theorem owns_of_whole (c : Dev nD) {sp : Space} {S : Shape} {e : EltTy} (M : Memref sig .tc sp S e) (h : M.IsWhole) (X : S.Idx → Elt F e) :
    (owns (c : Thread nD τ) M fullShare X : sProp 𝕄) = iprop(∃ f, ⌜M.view.read (Elt F) f = X⌝ ∗ wpt c M f) := by
  unfold owns; rw [h.set_eq_univ]

/-- The four staging buffers at a point, owned, as the body takes them. -/
theorem step_at (c : Dev nD) (t : Fin cfg1.N) (X3 : Vec F S1x1 .f32) (a : F .f32) (ha : t.val ≠ 0 → X3 = fun _ => a) (Q : PUnit → sProp 𝕄) :
    iprop(owns (c : Thread nD τ) (st1_0 t) fullShare (blkX V c t) ∗ owns (c : Thread nD τ) (st1_1 t) fullShare (blkO V c t)
        ∗ owns (c : Thread nD τ) (st1_2 t) fullShare (blkP V c t) ∗ owns (c : Thread nD τ) (st1_3 t) fullShare X3
        ∗ (iprop(owns (c : Thread nD τ) (st1_0 t) fullShare (blkX V c t) ∗ owns (c : Thread nD τ) (st1_1 t) fullShare (blkO V c t)
          ∗ owns (c : Thread nD τ) (st1_2 t) fullShare (blkP V c t)
          ∗ owns (c : Thread nD τ) (st1_3 t) fullShare (fun _ => accStep t.val a (blockLoss V c t))) -∗ Q ⟨⟩))
      ⊢ wp frame (wpE (defs₀ (F := F)) 𝒱₀ c none) Set.univ (bodyAt1 t) Q := by
  have w0 := stage_whole1 0 (cfg1.slots t 0)
  have w1 := stage_whole1 1 (cfg1.slots t 1)
  have w2 := stage_whole1 2 (cfg1.slots t 2)
  have w3 := stage_whole1 3 (cfg1.slots t 3)
  rw [owns_of_whole c (st1_0 t) w0, owns_of_whole c (st1_1 t) w1, owns_of_whole c (st1_2 t) w2, owns_of_whole c (st1_3 t) w3,
    owns_of_whole c (st1_3 t) w3]
  iintro ⟨⟨%f0, %hf0, H0⟩, ⟨%f1, %hf1, H1⟩, ⟨%f2, %hf2, H2⟩, ⟨%f3, %hf3, H3⟩, Hk⟩
  obtain rfl := w0.eq_unread hf0
  obtain rfl := w1.eq_unread hf1
  obtain rfl := w2.eq_unread hf2
  iapply (body_step c (grid1.coords t) (st1_0 t) w0 (st1_1 t) w1 (st1_2 t) w2 (st1_3 t) w3 (blkX V c t) (blkO V c t) (blkP V c t) a f3
    (fun h => hf3.trans (ha (by rwa [coords_val] at h))) Set.univ Q)
  isplitl [H0]; · iexact H0
  isplitl [H1]; · iexact H1
  isplitl [H2]; · iexact H2
  isplitl [H3]; · iexact H3
  rw [coords_val]
  iintro ⟨H0, H1, H2, H3⟩
  iapply Hk
  isplitl [H0]; · iexists _; isplitr; swap; (· iexact H0); ipureintro; exact w0.read_unread _
  isplitl [H1]; · iexists _; isplitr; swap; (· iexact H1); ipureintro; exact w1.read_unread _
  isplitl [H2]; · iexists _; isplitr; swap; (· iexact H2); ipureintro; exact w2.read_unread _
  iexact H3

/-- What the accumulator's buffer holds when the body runs at a point that is not the first, and what it leaves. -/
theorem acc_step (c : Dev nD) (t : Fin cfg1.N) (d : (cfg1.win 3).block.Idx → Elt F (cfg1.win 3).elt) :
    ∃ a, (t.val ≠ 0 → (dat V b c).before 3 t d = fun _ => a) ∧ accStep t.val a (blockLoss V c t) = acc V c t.val t.isLt := by
  obtain ⟨n, h⟩ := t
  cases n with
  | zero => exact ⟨Scalar.ofBits .f32 0x00000000#32, fun h0 => absurd rfl h0, rfl⟩
  | succ n => exact ⟨acc V c n (Nat.lt_of_succ_lt h), fun _ => before_s V b c n h d, rfl⟩

/-- The body at a point, over the staging buffers: the input blocks kept, the accumulator one step on. -/
theorem body_obligation (c : Dev nD) : BodyObligation (dat V b c) (defs₀ (F := F)) 𝒱₀ none Set.univ := fun t => by
  rw [bigSep_W1, bigSep_W1]
  rw [show (dat V b c).Φ t.castSucc = BI.emp from rfl, show (dat V b c).Φ t.succ = BI.emp from rfl,
    show (dat V b c).owesAt none t.succ = (dat V b c).owesAt none t.castSucc from rfl]
  iintro ⟨HΦ, Howes, ⟨%d0, H0⟩, ⟨%d1, H1⟩, ⟨%d2, H2⟩, ⟨%d3, H3⟩⟩
  rw [before_x, before_o, before_p]
  obtain ⟨a, ha, hs⟩ := acc_step V b c t d3
  iapply (step_at V c t ((dat V b c).before 3 t d3) a ha _)
  isplitl [H0]; · iexact H0
  isplitl [H1]; · iexact H1
  isplitl [H2]; · iexact H2
  isplitl [H3]; · iexact H3
  rw [hs]
  iintro ⟨H0, H1, H2, H3⟩
  isplitl [HΦ]; · iexact HΦ
  isplitl [Howes]; · iexact Howes
  isplitl [H0]; · iexact H0
  isplitl [H1]; · iexact H1
  isplitl [H2]; · iexact H2
  iexact H3

/-! ## The region -/

abbrev adm : (p : Fin 1) → (pcfgs (F := F) p).Adm := fun p => (cfgs p).toPCfg_adm

/-- The proof data of the program's one pipeline. -/
abbrev pdats : (p : Fin 1) → (c : Dev nD) → Dat τ (Elt F) (HIx 1) ℕ UU ℕ (Pipeline.pin (pcfgs (F := F)) adm p) c := fun _ c => dat V b c

/-- The result array: the accumulator after the last point. -/
def total (c : Dev nD) : Buf (Elt F) (sLoc c) := fun _ => acc V c 7 (by rw [show cfg1.N = 8 from N_1]; decide)

theorem flushed_eq (c : Dev nD) (t : Fin cfg1.N) (hf : (cfg1.win 3).flush t = true) :
    (dat V b c).flushed 3 t = ((cfg1.win 3).blk t).view.read (Elt F) (total V c) := by
  have hN : cfg1.N = 8 := N_1
  have h7 : t.val = 7 := by have := (flush1_3 t).mp hf; have := t.isLt; omega
  obtain rfl : t = t1_7 := Fin.ext h7
  funext j
  rfl

theorem final_s (c : Dev nD) : (dat V b c).arrAt 3 cfg1.N = total V c :=
  (dat V b c).arrAt_eq_of_cover 3 (total V c) (flushed_eq V b c) fun i =>
    ⟨t1_7, (flush1_3 t1_7).mpr rfl, by
      show i ∈ ((View.whole main_v2).slice (win1_3.rect t1_7)).set
      rw [View.set_slice_whole, Rect.mem_set_unit]
      intro a
      have h0 : (i 0 : Nat) < 1 := (i 0).isLt
      have h1 : (i 1 : Nat) < 1 := (i 1).isLt
      match a with
      | ⟨0, _⟩ =>
        show win1_3.index t1_7 0 * win1_3.size 0 ≤ (i 0 : Nat) ∧ (i 0 : Nat) < win1_3.index t1_7 0 * win1_3.size 0 + win1_3.xsize (grid1.coords t1_7) 0
        rw [show win1_3.index t1_7 0 * win1_3.size 0 = 0 from by decide +kernel, show win1_3.xsize (grid1.coords t1_7) 0 = 1 from by decide +kernel]; omega
      | ⟨1, _⟩ =>
        show win1_3.index t1_7 1 * win1_3.size 1 ≤ (i 1 : Nat) ∧ (i 1 : Nat) < win1_3.index t1_7 1 * win1_3.size 1 + win1_3.xsize (grid1.coords t1_7) 1
        rw [show win1_3.index t1_7 1 * win1_3.size 1 = 0 from by decide +kernel, show win1_3.xsize (grid1.coords t1_7) 1 = 1 from by decide +kernel]; omega⟩

/-- What the core owes and has recorded, around the region: nothing owed, the recorded pairs at or below level `b`. -/
abbrev owesBelow (c : Dev nD) : sProp 𝕄 :=
  iprop(∃ W, ⌜(K (F := F)).WBelow (SparseCore.T c) W b⌝ ∗ owes (c : Thread nD τ) (0 : CellTallies nD τ sig (HIx 1)) W)

set_option backward.isDefEq.respectTransparency.types false in
/-- The region over the four arrays: the inputs kept, the result at the accumulator's last value. -/
def region : Pipeline.RegionSeg (pcfgs (F := F)) adm (pdats V b) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V b c).loose
  hwaits := Pipeline.hwaits_of_owed_zero _ _ _ _ (K (F := F)).L (K (F := F)).lev 0 fun _ _ => rfl
  pre c := iprop(((xLoc c) ↦{fullShare} V.x c) ∗ ((oLoc c) ↦{fullShare} V.o c) ∗ ((pLoc c) ↦{fullShare} V.p c) ∗ ((sLoc c) ↦{fullShare} V.s c)
    ∗ owesBelow b c)
  post c := iprop(((xLoc c) ↦{fullShare} V.x c) ∗ ((oLoc c) ↦{fullShare} V.o c) ∗ ((pLoc c) ↦{fullShare} V.p c) ∗ ((sLoc c) ↦{fullShare} total V c)
    ∗ owesBelow b c)
  X _ := BI.emp
  Y _ := BI.emp
  Z _ := BI.emp
  hentry c := by
    rw [Pipeline.ownSems0_none, Pipeline.arrays_eq (Pipeline.pin (pcfgs (F := F)) adm) (pdats V b) 0 c launch1.arr_whole
      ((pdats V b 0 c).share_full fun _ => rfl), bigSep_W1]
    iintro ⟨⟨Hx, Ho, Hp, Hs, HO⟩, -, -⟩
    imodintro
    isplitl [Hx Ho Hp Hs]
    · isplitl [Hx]; · iexact Hx
      isplitl [Ho]; · iexact Ho
      isplitl [Hp]; · iexact Hp
      iexact Hs
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun e he => Or.inl (hW e he)
      iexact HO
    isplitr <;> iempintro
  hin c := by
    rw [scopedRest1_eq]
    iintro ⟨-, -, -⟩; iempintro
  hout c := by
    rw [Pipeline.ownSems0_none, scopedRest1_eq]
    iintro -
    isplitr; · iempintro
    isplitr <;> iempintro
  hexit c := by
    rw [Pipeline.arrays_eq (Pipeline.pin (pcfgs (F := F)) adm) (pdats V b) 0 c launch1.arr_whole
      ((pdats V b 0 c).share_full fun _ => rfl), bigSep_W1]
    iintro ⟨⟨Hx, Ho, Hp, Hs⟩, HO, -, -⟩
    imodintro
    isplitl [Hx]; · rw [(pdats V b 0 c).arrAt_in 0 rfl]; iexact Hx
    isplitl [Ho]; · rw [(pdats V b 0 c).arrAt_in 1 rfl]; iexact Ho
    isplitl [Hp]; · rw [(pdats V b 0 c).arrAt_in 2 rfl]; iexact Hp
    isplitl [Hs]; · rw [show (pdats V b 0 c).arrAt 3 cfg1.N = total V c from final_s V b c]; iexact Hs
    unfold Pipeline.Dat.owesAt Pipeline.owesWithin
    icases HO with ⟨%W, %hW, HO⟩; iexists W; isplitr; swap; (· iexact HO)
    ipureintro
    intro e he
    rcases hW he with h | ⟨w, s, rfl⟩
    · exact h
    · exact Nat.zero_le _

end Cert.Proof.KernelIdeal

end
-- ==== Proof.KernelIdeal.Launch.lean ====
/-
  The run of the whole program: the transposition, the call of the SparseCore's tiles, the TensorCore's region, the
  reshaping; and what memory holds at its end.
-/
module

public import proofs.«01_k».proof.Proof.KernelIdeal.Tile
public import proofs.«01_k».proof.Proof.KernelIdeal.Region

@[expose] public section

noncomputable section

namespace Cert.Proof.KernelIdeal

open Cert.KernelIdeal Cert.KernelIdeal.Gen
open Idealize.ShloMosaic Idealize.ShloMosaic.ValueIdx
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The contents of the arrays -/

/-- The transposed batch; -/
def xBuf (d : Dev nD) : Buf (Elt F) (xLoc d) :=
  (transpose S100x16384 [1, 0] (m (aLoc d) : Vec F S16384x100 .f32) transposes_S16384x100_S100x16384_1_0 : Vec F S100x16384 .f32)
/-- the rows' entries at their classes; -/
def oBuf (d : Dev nD) : Buf (Elt F) (oLoc d) := xt (α := Elt F .f32) (xBuf m d) (m (tLoc d))
/-- their classes' margins. -/
def pBuf (d : Dev nD) : Buf (Elt F) (pLoc d) := mt (α := Elt F .f32) (m (mLoc d)) (m (tLoc d))

/-- What the TensorCore's region finds. -/
def entry : Entry F := ⟨xBuf m, oBuf m, pBuf m, fun d => m (sLoc d)⟩

/-- The program's result: the region's, as a scalar. -/
def result (d : Dev nD) : Buf (Elt F) (rLoc d) :=
  (shapeCast S_ (total (entry m) d : Vec F S1x1 .f32) shapeCasts_S1x1_S_ : Vec F S_ .f32)

/-- What the proof asks of the launch memory: every class word is below 100. -/
def InRange : Prop := ∀ (d : Dev nD) (r : S16384.Idx), ((m (tLoc d) : S16384.Idx → BitVec 32) r).toNat < 100

/-! ## What passes between the threads -/

/-- The SparseCore's operands, the gathered arrays holding `fo` and `fp`. -/
abbrev callPts (d : Dev nD) (fo : Buf (Elt F) (oLoc d)) (fp : Buf (Elt F) (pLoc d)) : sProp 𝕄 :=
  iprop((xLoc d ↦{fullShare} xBuf m d) ∗ (mLoc d ↦{fullShare} m (mLoc d)) ∗ (tLoc d ↦{fullShare} m (tLoc d))
    ∗ (oLoc d ↦{fullShare} fo) ∗ pLoc d ↦{fullShare} fp)

/-- A tile's share of what every tile reads. -/
abbrev shareOf (i : Fin 16) : PosShare TreeShare := Transfers.dealOf fullShare Finset.univ i

/-- A tile's part of them. -/
abbrev tilePts (d : Dev nD) (i : Fin 16) (fo : Buf (Elt F) (oLoc d)) (fp : Buf (Elt F) (pLoc d)) : sProp 𝕄 :=
  goPts d (xBuf m d) (m (mLoc d)) (m (tLoc d)) (shareOf i) i fo fp

def P : (K (F := F)).Pay (nD := nD) (Val := Elt F) (Name := ℕ) (U := UU) where
  st := fun q d _ => match q with | 0 => callPts m d (m (oLoc d)) (m (pLoc d))
  dn := fun q d _ => match q with | 0 => callPts m d (oBuf m d) (pBuf m d)
  go := fun q d _ i => match q with | 0 => tilePts m d (Fin.cast nSub_zero i) (m (oLoc d)) (m (pLoc d))
  td := fun q d _ i => match q with | 0 => tilePts m d (Fin.cast nSub_zero i) (oBuf m d) (pBuf m d)
  x := fun _ _ => iprop(emp)

instance P_storable : (P (F := F) m).IsStorable where
  st q d _ := match q with
    | 0 => (inferInstance : BI.Storable (upEmb : UEmb _ 𝕄) (callPts m d (m (oLoc d)) (m (pLoc d))))
  dn q d _ := match q with
    | 0 => (inferInstance : BI.Storable (upEmb : UEmb _ 𝕄) (callPts m d (oBuf m d) (pBuf m d)))
  go q d _ i := match q with
    | 0 => by unfold P tilePts goPts; infer_instance
  td q d _ i := match q with
    | 0 => by unfold P tilePts goPts; infer_instance

/-! ## A tile's task -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_body (coordsV c s)
          (Memref.whole main_v0_scv) (Memref.isWhole_whole _) (Memref.whole main_arg1_scv) (Memref.isWhole_whole _)
          (Memref.whole main_arg2_scv) (Memref.isWhole_whole _) (Memref.whole main_v1_0_scv) (Memref.isWhole_whole _)
          (Memref.whole main_v1_1_scv) (Memref.isWhole_whole _) (Memref.whole cc0_scratch0) (Memref.isWhole_whole _)
          (Memref.whole cc0_scratch1) (Memref.isWhole_whole _) (Memref.whole cc0_scratch2) (Memref.isWhole_whole _)
          (Memref.whole cc0_scratch3) (Memref.isWhole_whole _) (Memref.whole cc0_scratch4) (Memref.isWhole_whole _)
          cc0_scoped0 cc0_scoped1 cc0_scoped2 cc0_scoped3 cc0_scoped4) ⟨⟩ c s := rfl

omit [FloatOps F] in
/-- What a task has waited for, as the launch asks it. -/
theorem waits_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'
  isplitr
  · ipureintro; exact fun p hp => (hW' p hp).imp_right Or.inl
  iexact HO

set_option maxRecDepth 16384 in
theorem tileObl (hF : (K (F := F)).Facts) (ht : InRange m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (xBuf m d) (m (mLoc d)) (m (tLoc d)) (shareOf (Fin.cast nSub_zero i)) hF (ht d)
    (m (oLoc d)) (m (pLoc d)) O W hO).trans (wp_mono frame _ _ fun _ => waits_weaken)

/-! ## The operands split among the tiles -/

theorem part_disjoint : ∀ i ∈ (Finset.univ : Finset (Fin 16)), ∀ j ∈ (Finset.univ : Finset (Fin 16)), i ≠ j → Disjoint (part i) (part j) := by
  intro i _ j _ hij
  rw [Finset.disjoint_left]
  intro y hi hj
  exact hij (Fin.ext ((mem_part.mp hi).symm.trans (mem_part.mp hj)))

theorem part_cover : (Finset.univ : Finset (Fin 16)).biUnion part = Finset.univ := by
  ext y
  simp only [Finset.mem_biUnion, Finset.mem_univ, true_and, iff_true]
  exact ⟨⟨(rowOf y).val / 1024, by have := (rowOf y).isLt; omega⟩, mem_part.mpr rfl⟩

/-- The call's operands are the tiles' parts of them. -/
theorem call_tiles (d : Dev nD) (fo : Buf (Elt F) (oLoc d)) (fp : Buf (Elt F) (pLoc d)) :
    callPts m d fo fp = (bigSep Finset.univ fun i : Fin 16 => tilePts m d i fo fp) := by
  unfold tilePts goPts
  rw [bigSep_sep', bigSep_sep', bigSep_sep', bigSep_sep',
    ← Transfers.pointsTo_deal Finset.univ Finset.univ_nonempty fullShare,
    ← Transfers.pointsTo_deal Finset.univ Finset.univ_nonempty fullShare,
    ← Transfers.pointsTo_deal Finset.univ Finset.univ_nonempty fullShare,
    ← pointsTo_biUnion (ℓ := oLoc d) Finset.univ part part_disjoint, ← pointsTo_biUnion (ℓ := pLoc d) Finset.univ part part_disjoint,
    part_cover]

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show callPts m d (m (oLoc d)) (m (pLoc d)) ⊢ |={Set.univ}=> iprop(
      (bigSep Finset.univ fun i : Fin ((K (F := F)).nSub 0) => tilePts m d (Fin.cast nSub_zero i) (m (oLoc d)) (m (pLoc d)))
      ∗ ((bigSep Finset.univ fun i : Fin ((K (F := F)).nSub 0) => tilePts m d (Fin.cast nSub_zero i) (oBuf m d) (pBuf m d))
          -∗ callPts m d (oBuf m d) (pBuf m d)))
  rw [bigSep_tasks (F := F) (fun i => tilePts m d i (m (oLoc d)) (m (pLoc d))),
    bigSep_tasks (F := F) (fun i => tilePts m d i (oBuf m d) (pBuf m d)), ← call_tiles, ← call_tiles]
  iintro H; imodintro
  isplitl [H]; · iexact H
  iintro H; iexact H

/-! ## The launch's ghost state -/

/-- The pipeline's rounds within the ghost state. -/
def EP : Emb UP 𝕄 := (Emb.inl : Emb UP (UP × Counters)).trans embR
instance EP_landsIn : (EP (F := F)).LandsIn (upEmb : UEmb _ 𝕄) := by unfold EP; infer_instance

abbrev pinned := Pipeline.pin (pcfgs (F := F)) adm
theorem pinned_inj : Function.Injective (Pipeline.cellOf (nD := nD) (τ := τ) (pinned (F := F))) := cellOf_inj

def u₀ : UU :=
  (initOf (K (F := F)).hsCells (K (F := F)).hsToks,
    (initOf (Pipeline.cells (pinned (F := F)) pinned_inj) (Pipeline.launchToks (pinned (F := F)) pinned_inj), 1))

/-- A TensorCore's part of it: its pipeline's cells and their transfers' tokens. -/
def G (d : Dev nD) : sProp 𝕄 := iprop(Pipeline.cellsGhost (pinned (F := F)) EP 0 d ∗ Pipeline.toksInit (pinned (F := F)) EP 0 d)

omit [FloatOps F] in
theorem no_duty {I : Type} (s : Finset I) : (bigSep s fun _ => iprop(emp)) = (iprop(emp) : sProp 𝕄) := bigSep_emp_const s

omit [FloatOps F] in
/-- One pipeline's, of each TensorCore's. -/
theorem only_pipeline (Φ : Dev nD → Fin 1 → sProp 𝕄) :
    (bigSep Finset.univ fun c => bigSep Finset.univ fun p => Φ c p) ⊢ bigSep Finset.univ fun c => Φ c 0 :=
  bigSep_mono fun c _ => BI.bigSep_elim (Φ := Φ c) (Finset.mem_univ (0 : Fin 1))

theorem hu₀ : (ownU (u₀ (F := F)) : sProp 𝕄)
    ⊢ |={Set.univ}=> iprop(BI.own (EH (initOf (K (F := F)).hsCells (K (F := F)).hsToks)) ∗ bigSep Finset.univ (G (F := F))
        ∗ bigSep Finset.univ fun thr : Thread nD τ => bigSep Finset.univ fun q : Fin 1 => (P m).x q thr) := by
  unfold u₀
  iintro Hu
  ihave H := (ownU_pair (initOf (K (F := F)).hsCells (K (F := F)).hsToks) _) $$ Hu
  icases H with ⟨HH, HR⟩
  ihave H := (own_pair_emb embR _ _) $$ HR
  icases H with ⟨HP, -⟩
  ihave HP := (show BI.own ((Emb.inl.trans embR : Emb UP 𝕄) (initOf (Pipeline.cells (pinned (F := F)) pinned_inj) (Pipeline.launchToks (pinned (F := F)) pinned_inj)))
    ⊢ (BI.own (EP (initOf (Pipeline.cells (pinned (F := F)) pinned_inj) (Pipeline.launchToks (pinned (F := F)) pinned_inj))) : sProp 𝕄) from BI.Entails.refl _) $$ HP
  imod (Pipeline.fund_ghost (pinned (F := F)) EP pinned_inj) $$ HP with ⟨Hg, Ht⟩
  imodintro
  isplitl [HH]; · iexact HH
  isplitl [Hg Ht]
  · unfold G
    rw [bigSep_sep']
    isplitl [Hg]
    · iapply (only_pipeline fun c p => Pipeline.cellsGhost (pinned (F := F)) EP p c); iexact Hg
    · iapply (only_pipeline fun c p => Pipeline.toksInit (pinned (F := F)) EP p c); iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), no_duty]
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((aLoc d ↦{fullShare} W main_arg0) ∗ (mLoc d ↦{fullShare} W main_arg1)
      ∗ (tLoc d ↦{fullShare} W main_arg2) ∗ (xLoc d ↦{fullShare} W main_v0) ∗ (oLoc d ↦{fullShare} W main_v1_0)
      ∗ (pLoc d ↦{fullShare} W main_v1_1) ∗ (sLoc d ↦{fullShare} W main_v2) ∗ rLoc d ↦{fullShare} W main_v3) := by
  unfold unscopedBufs
  rw [show (Finset.univ.filter fun b : Ref sig .tc => ¬ b.isScoped)
      = {main_arg0, main_arg1, main_arg2, main_v0, main_v1_0, main_v1_1, main_v2, main_v3} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

theorem st0_eq (d : Dev nD) : (bigSep Finset.univ fun c : Fin ((K (F := F)).nCore 0) => (P m).st 0 d c) = callPts m d (m (oLoc d)) (m (pLoc d)) :=
  bigSep_univ_of_subsingleton (0 : Fin 1)
theorem dn0_eq (d : Dev nD) : (bigSep Finset.univ fun c : Fin ((K (F := F)).nCore 0) => (P m).dn 0 d c) = callPts m d (oBuf m d) (pBuf m d) :=
  bigSep_univ_of_subsingleton (0 : Fin 1)

abbrev aRef : DevRef τ sig := Proc.devRef .tc (main_arg0 : Ref sig .tc)
abbrev xRef : DevRef τ sig := Proc.devRef .tc (main_v0 : Ref sig .tc)
abbrev sRef : DevRef τ sig := Proc.devRef .tc (main_v2 : Ref sig .tc)
abbrev rRef : DevRef τ sig := Proc.devRef .tc (main_v3 : Ref sig .tc)

abbrev opT : HloOp τ sig (Elt F) :=
  StableHlo.unary main_arg0 main_v0 ((transpose S100x16384 [1, 0] · transposes_S16384x100_S100x16384_1_0) :
    (⟨S16384x100, .f32⟩ : BufTy).Contents (Elt F) → (⟨S100x16384, .f32⟩ : BufTy).Contents (Elt F))
abbrev opR : HloOp τ sig (Elt F) := StableHlo.reshape main_v2 main_v3 (rfl : (.f32 : EltTy) = .f32) shapeCasts_S1x1_S_

omit [FloatOps F] in
theorem held_T (d : Dev nD) (W : Valuation τ sig (Elt F)) :
    (held (SparseCore.T d) {aRef, xRef} W : sProp 𝕄) = iprop((aLoc d ↦{fullShare} W aRef) ∗ xLoc d ↦{fullShare} W xRef) := by
  unfold held
  rw [SparseCore.bigSep_insert' (by decide), bigSep_singleton]
omit [FloatOps F] in
theorem held_R (d : Dev nD) (W : Valuation τ sig (Elt F)) :
    (held (SparseCore.T d) {sRef, rRef} W : sProp 𝕄) = iprop((sLoc d ↦{fullShare} W sRef) ∗ rLoc d ↦{fullShare} W rRef) := by
  unfold held
  rw [SparseCore.bigSep_insert' (by decide), bigSep_singleton]

/-- The arrays at the launch; and after the region. -/
def W0 (d : Dev nD) : Valuation τ sig (Elt F) := fun b => m (d, b)
def W1 (d : Dev nD) : Valuation τ sig (Elt F) := Function.update (W0 m d) sRef (total (entry m) d)

omit [FloatOps F] in
theorem held_T0 (d : Dev nD) :
    (held (SparseCore.T d) {aRef, xRef} (W0 m d) : sProp 𝕄) = iprop((aLoc d ↦{fullShare} m (aLoc d)) ∗ xLoc d ↦{fullShare} m (xLoc d)) :=
  held_T d _
theorem held_T1 (d : Dev nD) :
    (held (SparseCore.T d) {aRef, xRef} ((opT (F := F)).result (W0 m d)) : sProp 𝕄)
      = iprop((aLoc d ↦{fullShare} m (aLoc d)) ∗ xLoc d ↦{fullShare} xBuf m d) := by
  rw [held_T, StableHlo.unary_result, StableHlo.unary_result_ne (h := show (main_arg0 : Ref sig .tc) ≠ main_v0 by decide)]
  rfl
theorem held_R0 (d : Dev nD) :
    (held (SparseCore.T d) {sRef, rRef} (W1 m d) : sProp 𝕄)
      = iprop((sLoc d ↦{fullShare} total (entry m) d) ∗ rLoc d ↦{fullShare} m (rLoc d)) := by
  rw [held_R, show W1 m d sRef = total (entry m) d from Function.update_self _ _ _,
    show W1 m d rRef = W0 m d rRef from Function.update_of_ne (show rRef ≠ sRef by decide) _ _]
  rfl
theorem held_R1 (d : Dev nD) :
    (held (SparseCore.T d) {sRef, rRef} ((opR (F := F)).result (W1 m d)) : sProp 𝕄)
      = iprop((sLoc d ↦{fullShare} total (entry m) d) ∗ rLoc d ↦{fullShare} result m d) := by
  rw [held_R, StableHlo.reshape_result, StableHlo.reshape_result_ne (h := show (main_v2 : Ref sig .tc) ≠ main_v3 by decide),
    show W1 m d sRef = total (entry m) d from Function.update_self _ _ _]
  rfl

/-- The region's call in the pipelines' own signature, -/
def entryProg : Prog (TpuEff nD τ sig (Elt F) (ΛP (F := F)) .tc) PUnit := Prog.lift (.customCall (Pipeline.entry 0) ())
/-- and as @main makes it. -/
theorem entry_lifted (d : Dev nD) :
    SparseCore.liftProg (entryProg (F := F)) = (Prog.lift (.customCall (SparseCore.inner (Pipeline.entry 0)) ()) :
      Prog (TpuEff nD τ sig (Elt F) (SparseCore.Sig (ΛP (F := F)) 1) (SparseCore.T d : Thread nD τ).2) PUnit) := rfl

/-- What @main's TensorCore keeps to the end: the arguments and the result. -/
abbrev FIN (d : Dev nD) : sProp 𝕄 :=
  iprop((aLoc d ↦{fullShare} m (aLoc d)) ∗ (mLoc d ↦{fullShare} m (mLoc d)) ∗ (tLoc d ↦{fullShare} m (tLoc d))
    ∗ rLoc d ↦{fullShare} result m d)

theorem region_pre (b : ℕ) (d : Dev nD) :
    (region (entry m) b).pre d = (iprop((xLoc d ↦{fullShare} xBuf m d) ∗ (oLoc d ↦{fullShare} oBuf m d) ∗ (pLoc d ↦{fullShare} pBuf m d)
      ∗ (sLoc d ↦{fullShare} m (sLoc d)) ∗ owesBelow b d) : sProp 𝕄) := rfl
theorem region_post (b : ℕ) (d : Dev nD) :
    (region (entry m) b).post d = (iprop((xLoc d ↦{fullShare} xBuf m d) ∗ (oLoc d ↦{fullShare} oBuf m d) ∗ (pLoc d ↦{fullShare} pBuf m d)
      ∗ (sLoc d ↦{fullShare} total (entry m) d) ∗ owesBelow b d) : sProp 𝕄) := rfl

/-- The region, run by the launched program. -/
theorem wp_region (b : ℕ) (d : Dev nD) (Q : PUnit → sProp 𝕄) :
    iprop((boundary (SparseCore.T d) ∗ (region (entry m) b).post d -∗ Q ⟨⟩) ∗ boundary (SparseCore.T d) ∗ (region (entry m) b).pre d
        ∗ levAts (K (F := F)).L (K (F := F)).lev ∗ G d)
      ⊢ wp frame (wpE ((K (F := F)).defs (D (F := F))) 𝒱 (SparseCore.T d) none) Set.univ
          (Prog.lift (.customCall (SparseCore.inner (Pipeline.entry 0)) ())) Q := by
  rw [← entry_lifted d]
  refine BI.Entails.trans ?_ ((K (F := F)).wp_liftProg (D (F := F)) 𝒱 (SparseCore.T d) Set.univ none entryProg Q)
  unfold entryProg G
  have h := Pipeline.RegionSeg.wp (pcfgs (F := F)) adm (pdats (entry m) b) none pinned_inj EP defs₀ 𝒱₀ (K (F := F)).L (K (F := F)).lev
    (region (entry m) b) d none (fun _ h => nomatch h) (fun _ => .ret ⟨⟩) Q
  refine BI.Entails.trans ?_ h
  rw [wp_ret]
  change (iprop(_ ∗ _) : sProp 𝕄) ⊢ iprop(_ ∗ _)
  iintro ⟨Hk, Hrest⟩
  isplitl [Hk]
  · iintro H
    imodintro
    iapply Hk; iexact H
  iexact Hrest

/-- @main on device `d`'s TensorCore. -/
theorem hmain (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Ha, Hm, Ht, Hx, Ho, Hp, Hs, Hr⟩, Hts, -⟩, HG⟩
  iapply (wp_hlo_within 𝒱 (SparseCore.T d) none Set.univ (op := opT) (S := {aRef, xRef}) (Finset.Subset.refl _) (V := W0 m d)) $$ [Hb Ha Hx]
  · isplitl [Hb]; · iexact Hb
    rw [held_T0]
    isplitl [Ha] <;> iassumption
  iintro ⟨Hb, Hheld⟩
  ihave Hh := (Entails.of_eq (held_T1 (F := F) m d)) $$ Hheld
  icases Hh with ⟨Ha, Hx⟩
  rw [wp_ret]; imodintro
  iapply ((K (F := F)).wp_run (D (F := F)) 𝒱 (EH := EH) (P := P m) κ d 0) $$ [Hst Ha Hm Ht Hx Ho Hp Hs Hr Hb Hts HG]
  isplitr; · iexact Hctx
  isplitl [Hst]; · iexact Hst
  isplitl [Hm Ht Hx Ho Hp]
  · rw [st0_eq]
    isplitl [Hx]; · iexact Hx
    isplitl [Hm]; · iexact Hm
    isplitl [Ht]; · iexact Ht
    isplitl [Ho] <;> iassumption
  iintro ⟨Hst, Hdn⟩
  ihave Hdn' := (Entails.of_eq (dn0_eq m d)) $$ Hdn
  icases Hdn' with ⟨Hx, Hm, Ht, Ho, Hp⟩
  ihave Hlev := (SparseCore.Cfg.ctx_levAts κ) $$ Hctx
  unfold SparseCore.Cfg.tcSt
  rw [show (K (F := F)).Otc d ((0 : Fin 1).val + 1) = 0 from (K (F := F)).Otc_end d (le_refl 1)]
  icases Hst with ⟨HO, Hst⟩
  iapply (wp_region m (8 * SparseCore.Cfg.Blocks.fst (Q := 1) (N := 1) ((0 : Fin 1).val + 1)) d) $$ [Hst Ha Hm Ht Hx Ho Hp Hs Hr Hb Hts HG HO]
  isplitr [Hb Hx Ho Hp Hs HO HG]
  · iintro ⟨Hb, Hpost⟩
    ihave Hpost := (Entails.of_eq (region_post m _ d)) $$ Hpost
    icases Hpost with ⟨Hx, Ho, Hp, Hs, HO⟩
    iapply (wp_hlo_within 𝒱 (SparseCore.T d) none Set.univ (op := opR) (S := {sRef, rRef}) (Finset.Subset.refl _) (V := W1 m d)) $$ [Hb Hs Hr]
    · isplitl [Hb]; · iexact Hb
      rw [held_R0]
      isplitl [Hs] <;> iassumption
    iintro ⟨Hb, Hheld⟩
    ihave Hh := (Entails.of_eq (held_R1 (F := F) m d)) $$ Hheld
    icases Hh with ⟨Hs, Hr⟩
    rw [wp_ret]; imodintro; imodintro
    isplitl [HO Hst]
    · isplitl [HO]
      · rw [show (K (F := F)).Otc d 1 = 0 from (K (F := F)).Otc_end d (le_refl 1)]
        iexact HO
      iexact Hst
    isplitr [Hb Hts]
    · isplitl [Ha]; · iexact Ha
      isplitl [Hm]; · iexact Hm
      isplitl [Ht] <;> iassumption
    isplitl [Hb] <;> iassumption
  isplitl [Hb]; · iexact Hb
  isplitl [Hx Ho Hp Hs HO]
  · iapply (Entails.of_eq (region_pre m _ d).symm)
    isplitl [Hx]; · iexact Hx
    isplitl [Ho]; · iexact Ho
    isplitl [Hp]; · iexact Hp
    isplitl [Hs] <;> iassumption
  isplitr; · iexact Hlev
  iexact HG

def fq (d : Dev nD) (s' : Phys nD τ sig (Elt F)) : Prop :=
  s'.mem.mem (rLoc d) = result m d ∧ s'.mem.mem (aLoc d) = m (aLoc d) ∧ s'.mem.mem (mLoc d) = m (mLoc d) ∧ s'.mem.mem (tLoc d) = m (tLoc d)

set_option maxRecDepth 16384 in
theorem hfin (d : Dev nD) (s' : Phys nD τ sig (Elt F)) : iprop(FIN m d ∗ SI s') ⊢ (⌜fq m d s'⌝ : sProp 𝕄) := by
  iintro ⟨⟨Ha, Hm, Ht, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%ha, HSI, -⟩
  ihave H := (persistent_entails_right (SI_pointsTo_agree (st := s') (ℓ := mLoc d) (I := Finset.univ) (q := fullShare) (f := m (mLoc d)))) $$ [HSI Hm]
  · isplitl [HSI] <;> iassumption
  icases H with ⟨%hm, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%ht, HSI, -⟩
  ihave H := (SI_pointsTo_agree (st := s') (ℓ := rLoc d) (I := Finset.univ) (q := fullShare) (f := result m d)) $$ [HSI Hr]
  · isplitl [HSI] <;> iassumption
  icases H with %hr
  ipureintro
  exact ⟨funext fun i => hr i (Finset.mem_univ i), funext fun i => ha i (Finset.mem_univ i), funext fun i => hm i (Finset.mem_univ i),
    funext fun i => ht i (Finset.mem_univ i)⟩

/-! ## The run -/

/-- What memory holds at the end: the result, the arguments unchanged, every semaphore at zero. -/
def QC : PUnit × MemSt nD τ sig (Elt F) → Prop := fun r =>
  (∀ c : Dev nD, r.2.mem (rLoc c) = result m c ∧ r.2.mem (aLoc c) = m (aLoc c) ∧ r.2.mem (mLoc c) = m (mLoc c) ∧ r.2.mem (tLoc c) = m (tLoc c))
    ∧ r.2.sem = fun _ => 0

theorem run_main [∀ e, Nonempty (Elt F e)] (ht : InRange m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) scFacts v₀
    (fun q hq => match q with | 0 => nomatch hq)
    (fun q _ => match q with | 0 => tileObl m scFacts ht)
    (fun q _ => match q with | 0 => SparseCore.Cfg.VecSplit.of_plain (vecSplit m))
    m ρ main G (FIN m) (u₀ (F := F)) (sep_elim_left.trans (hu₀ m)) (hmain m ρ) (fq m) (hfin m) (QC m) (fun _ h hz => ⟨h, hz⟩)

end Cert.Proof.KernelIdeal

end
-- ==== Proof.Row.lean ====
/-
  One row of the loss over the extended reals: the reference's form and the kernel's form of it, and that they agree.
-/
module

public import Idealize.ShloMosaic.PureOps.Ideal
public import Mathlib.Analysis.Complex.Exponential

@[expose] public section

noncomputable section

namespace Cert.Proof.Row

open Idealize.ShloMosaic

variable {n : ℕ}

/-- The row with the margin taken off its target entry. -/
def shifted (x : Fin n → EReal) (m : EReal) (t : Fin n) (j : Fin n) : EReal := if j = t then x t - m else x j

/-- The reference's loss of a row: the logarithm of the sum of the exponentials of the scaled logits, less the target's logit. -/
def refRow (x : Fin n → EReal) (m : EReal) (t : Fin n) : EReal :=
  Ideal.log (∑ j, Ideal.exp (shifted x m t j * (30 : ℝ))) - shifted x m t t * (30 : ℝ)

/-- The kernel's loss of a row with `b` its largest entry: the sum of the exponentials relative to `b`, the target's term
    exchanged for the one with the margin, held from below at `u`. -/
def kerRow (u : EReal) (x : Fin n → EReal) (b m : EReal) (t : Fin n) : EReal :=
  Ideal.log (max (((∑ j, Ideal.exp ((x j - b) * (30 : ℝ))) - Ideal.exp ((x t - b) * (30 : ℝ)))
    + Ideal.exp (((x t - m) - b) * (30 : ℝ))) u) + (30 : ℝ) * ((b - x t) + m)

theorem bot_mul_scale : (⊥ : EReal) * ((30 : ℝ) : EReal) = ⊥ := EReal.bot_mul_coe_of_pos (by norm_num)
theorem top_mul_scale : (⊤ : EReal) * ((30 : ℝ) : EReal) = ⊤ := EReal.top_mul_coe_of_pos (by norm_num)
theorem scale_mul_bot : ((30 : ℝ) : EReal) * ⊥ = ⊥ := EReal.coe_mul_bot_of_pos (by norm_num)
theorem scale_mul_top : ((30 : ℝ) : EReal) * ⊤ = ⊤ := EReal.coe_mul_top_of_pos (by norm_num)

theorem sub_top' (a : EReal) : a - ⊤ = ⊥ := by rw [sub_eq_add_neg, EReal.neg_top, EReal.add_bot]

theorem coe_sum (s : Finset (Fin n)) (f : Fin n → ℝ) : ((∑ i ∈ s, f i : ℝ) : EReal) = ∑ i ∈ s, (f i : EReal) := by
  induction s using Finset.induction_on with
  | empty => rfl
  | insert i s hi ih => rw [Finset.sum_insert hi, Finset.sum_insert hi, EReal.coe_add, ih]

theorem exp_nonneg (a : EReal) : 0 ≤ Ideal.exp a := by
  induction a with
  | bot => exact le_refl _
  | top => exact le_top
  | coe r => exact EReal.coe_nonneg.mpr (Real.exp_pos r).le

/-- A row that has an entry at plus infinity. -/
theorem row_top {u : ℝ} (hu : 0 < u) {x : Fin n → EReal} {m : ℝ} {t j : Fin n} (hj : x j = ⊤) :
    kerRow (u : EReal) x ⊤ (m : EReal) t = refRow x (m : EReal) t := by
  have hk : kerRow (u : EReal) x ⊤ (m : EReal) t = (Real.log u : EReal) + (30 : ℝ) * ((⊤ - x t) + (m : EReal)) := by
    unfold kerRow
    simp only [sub_top', bot_mul_scale, Ideal.exp_bot, Finset.sum_const_zero, sub_zero, add_zero]
    rw [max_eq_right (EReal.coe_nonneg.mpr hu.le), Ideal.log_coe, if_neg (not_le.mpr hu)]
  have hs : (∑ i, Ideal.exp (shifted x m t i * (30 : ℝ))) = ⊤ := by
    refine top_le_iff.mp (le_trans ?_ (Finset.single_le_sum (f := fun i => Ideal.exp (shifted x m t i * (30 : ℝ)))
      (fun i _ => exp_nonneg _) (Finset.mem_univ j)))
    have e : shifted x m t j = ⊤ := by
      unfold shifted
      split
      · rename_i h
        rw [← h, hj, EReal.top_sub_coe]
      · exact hj
    show _ ≤ Ideal.exp (shifted x m t j * (30 : ℝ))
    rw [e, top_mul_scale, Ideal.exp_top]
  rw [hk]
  unfold refRow
  rw [hs, Ideal.log_top, shifted, if_pos rfl]
  induction x t with
  | bot =>
    rw [EReal.bot_sub, bot_mul_scale, EReal.top_sub_bot, EReal.top_add_coe, scale_mul_top, EReal.coe_add_top]
  | top =>
    rw [EReal.top_sub_coe, top_mul_scale, sub_top', EReal.bot_add, scale_mul_bot, EReal.add_bot]
  | coe r =>
    rw [EReal.top_sub_coe, EReal.top_add_coe, scale_mul_top, EReal.coe_add_top, ← EReal.coe_sub, ← EReal.coe_mul, EReal.top_sub_coe]

/-- A row whose entries are all at minus infinity. -/
theorem row_bot {u : ℝ} (hu : 0 < u) {x : Fin n → EReal} {m : ℝ} {t : Fin n} (h : ∀ j, x j = ⊥) :
    kerRow (u : EReal) x ⊥ (m : EReal) t = refRow x (m : EReal) t := by
  unfold kerRow refRow
  have hs : ∀ j, shifted x m t j = ⊥ := fun j => by
    unfold shifted
    split
    · rw [h, EReal.bot_sub]
    · exact h j
  simp only [hs, h, EReal.bot_sub, bot_mul_scale, Ideal.exp_bot, Finset.sum_const_zero, sub_zero, add_zero]
  rw [max_eq_right (EReal.coe_nonneg.mpr hu.le), EReal.bot_add, scale_mul_bot, EReal.add_bot]
  rw [show (0 : EReal) = ((0 : ℝ) : EReal) from rfl, Ideal.log_coe, if_pos (le_refl _)]
  rfl

/-- The exponential of an entry relative to a real `b`, as a real number: zero at minus infinity. -/
def term (b : ℝ) (a : EReal) : ℝ := if a = ⊥ then 0 else Real.exp (30 * (a.toReal - b))

theorem term_nonneg (b : ℝ) (a : EReal) : 0 ≤ term b a := by
  unfold term
  split
  · exact le_refl _
  · exact (Real.exp_pos _).le

theorem exp_rel {b : ℝ} {a : EReal} (h : a ≠ ⊤) : Ideal.exp ((a - (b : EReal)) * (30 : ℝ)) = (term b a : EReal) := by
  induction a with
  | bot => rw [EReal.bot_sub, bot_mul_scale, Ideal.exp_bot, term, if_pos rfl]; rfl
  | top => exact absurd rfl h
  | coe r =>
    rw [← EReal.coe_sub, ← EReal.coe_mul, Ideal.exp_coe, term, if_neg (EReal.coe_ne_bot r), EReal.toReal_coe, mul_comm]

theorem exp_abs {b : ℝ} {a : EReal} (h : a ≠ ⊤) : Ideal.exp (a * (30 : ℝ)) = ((term b a * Real.exp (30 * b) : ℝ) : EReal) := by
  induction a with
  | bot => rw [bot_mul_scale, Ideal.exp_bot, term, if_pos rfl, zero_mul]; rfl
  | top => exact absurd rfl h
  | coe r =>
    rw [← EReal.coe_mul, Ideal.exp_coe, term, if_neg (EReal.coe_ne_bot r), EReal.toReal_coe, ← Real.exp_add]
    congr 2
    ring

/-- A row whose largest entry is a real number. -/
theorem row_coe {u : ℝ} (hu : 0 < u) (hu' : u ≤ Real.exp (-69)) {x : Fin n → EReal} {b m : ℝ} (hm : m ≤ 23 / 10) {t j : Fin n}
    (hb : ∀ i, x i ≤ (b : EReal)) (hj : x j = (b : EReal)) :
    kerRow (u : EReal) x (b : EReal) (m : EReal) t = refRow x (m : EReal) t := by
  have hx : ∀ i, x i ≠ ⊤ := fun i q => EReal.coe_ne_top b (top_le_iff.mp (q ▸ hb i))
  have hs : x t - (m : EReal) ≠ ⊤ := by
    have h := hx t
    generalize x t = a at h
    induction a with
    | bot => rw [EReal.bot_sub]; exact bot_ne_top
    | top => exact absurd rfl h
    | coe r => rw [← EReal.coe_sub]; exact EReal.coe_ne_top _
  have hsh : ∀ i, shifted x m t i ≠ ⊤ := fun i => by
    unfold shifted
    split
    · exact hs
    · exact hx i
  have hone : term b (x j) = 1 := by
    rw [hj, term, if_neg (EReal.coe_ne_bot b), EReal.toReal_coe, sub_self, mul_zero, Real.exp_zero]
  -- the sum with the target's term exchanged
  have hsplit : (∑ i, term b (shifted x m t i)) = (∑ i, term b (x i)) - term b (x t) + term b (x t - (m : EReal)) := by
    rw [← Finset.add_sum_erase _ _ (Finset.mem_univ t), ← Finset.add_sum_erase _ (fun i => term b (x i)) (Finset.mem_univ t)]
    rw [Finset.sum_congr rfl fun i hi => show term b (shifted x m t i) = term b (x i) by
      rw [shifted, if_neg (Finset.ne_of_mem_erase hi)]]
    rw [show shifted x m t t = x t - (m : EReal) by rw [shifted, if_pos rfl]]
    ring
  have hlow : Real.exp (-69) ≤ ∑ i, term b (shifted x m t i) := by
    refine le_trans ?_ (Finset.single_le_sum (f := fun i => term b (shifted x m t i)) (fun i _ => term_nonneg _ _) (Finset.mem_univ j))
    show _ ≤ term b (shifted x m t j)
    unfold shifted
    split
    · rename_i h
      rw [← h, hj, ← EReal.coe_sub, term, if_neg (EReal.coe_ne_bot _), EReal.toReal_coe]
      exact Real.exp_le_exp.mpr (by linarith)
    · rw [hone]
      exact Real.exp_le_one_iff.mpr (by norm_num)
  have hpos : 0 < ∑ i, term b (shifted x m t i) := lt_of_lt_of_le (Real.exp_pos _) hlow
  have hker : ((∑ i, Ideal.exp ((x i - (b : EReal)) * (30 : ℝ))) - Ideal.exp ((x t - (b : EReal)) * (30 : ℝ)))
      + Ideal.exp (((x t - (m : EReal)) - (b : EReal)) * (30 : ℝ)) = ((∑ i, term b (shifted x m t i) : ℝ) : EReal) := by
    rw [hsplit, exp_rel (hx t), exp_rel hs, Finset.sum_congr rfl fun i _ => exp_rel (b := b) (hx i), ← coe_sum, EReal.coe_add, EReal.coe_sub]
  have href : (∑ i, Ideal.exp (shifted x m t i * (30 : ℝ))) = (((∑ i, term b (shifted x m t i)) * Real.exp (30 * b) : ℝ) : EReal) := by
    rw [Finset.sum_congr rfl fun i _ => exp_abs (b := b) (hsh i), ← coe_sum, Finset.sum_mul]
  unfold kerRow refRow
  rw [hker, href, max_eq_left (EReal.coe_le_coe_iff.mpr (hu'.trans hlow)), Ideal.log_coe, Ideal.log_coe, if_neg (not_le.mpr hpos),
    if_neg (not_le.mpr (mul_pos hpos (Real.exp_pos _))), Real.log_mul hpos.ne' (Real.exp_pos _).ne', Real.log_exp,
    show shifted x m t t = x t - (m : EReal) by rw [shifted, if_pos rfl]]
  have h := hx t
  generalize x t = a at h
  induction a with
  | bot =>
    rw [EReal.bot_sub, bot_mul_scale, EReal.coe_sub_bot, EReal.coe_sub_bot, EReal.top_add_coe, scale_mul_top, EReal.coe_add_top]
  | top => exact absurd rfl h
  | coe r =>
    norm_cast
    ring

theorem exp_69 : (1 / 10 ^ 30 * (1 + 1 / 100) : ℝ) ≤ Real.exp (-69) := by
  have h1 : Real.exp 1 ≤ 2.7182819 := by
    refine (Real.exp_bound' zero_le_one le_rfl (n := 12) (by norm_num)).trans ?_
    norm_num [Finset.sum_range_succ, Nat.factorial]
  have h2 : Real.exp 69 = Real.exp 1 ^ 69 := by rw [← Real.exp_nat_mul]; norm_num
  rw [Real.exp_neg, h2, ← one_div, le_div_iff₀ (pow_pos (Real.exp_pos 1) 69)]
  have h3 : Real.exp 1 ^ 69 ≤ 2.7182819 ^ 69 := pow_le_pow_left₀ (Real.exp_pos 1).le h1 69
  have h4 : (1 / 10 ^ 30 * (1 + 1 / 100) : ℝ) * 2.7182819 ^ 69 ≤ 1 := by norm_num
  exact le_trans (mul_le_mul_of_nonneg_left h3 (by positivity)) h4

/-- The two forms of a row's loss agree, whatever the row's entries, for a real margin that is at most 2.3. -/
theorem row_eq {u : ℝ} (hu : 0 < u) (hu' : u ≤ Real.exp (-69)) (x : Fin n → EReal) {m : ℝ} (hm : m ≤ 23 / 10) (t : Fin n) :
    kerRow (u : EReal) x (Finset.univ.sup x) (m : EReal) t = refRow x (m : EReal) t := by
  obtain ⟨j, -, hj⟩ := Finset.exists_mem_eq_sup Finset.univ ⟨t, Finset.mem_univ t⟩ x
  have hle : ∀ i, x i ≤ x j := fun i => hj ▸ Finset.le_sup (f := x) (Finset.mem_univ i)
  rw [hj]
  generalize hb : x j = b at hle
  induction b with
  | bot => exact row_bot hu fun i => le_bot_iff.mp (hle i)
  | top => exact row_top hu hb
  | coe b => exact row_coe hu hu' hm hle hb

end Cert.Proof.Row

end
-- ==== Proof.KernelIdeal.BlockLoss.lean ====
/-
  One block's loss over the extended reals: the sum over the block's rows of the rows' losses in the kernel's form.
-/
module

public import proofs.«01_k».proof.Proof.KernelIdeal.Region
public import proofs.«01_k».proof.Proof.Row
public import Idealize.ShloMosaic.PureOps.Ideal.Laws
public import Idealize.ShloMosaic.Lib.ValueLayout

@[expose] public section

noncomputable section

namespace Cert.Proof.KernelIdeal

open Cert.KernelIdeal Cert.KernelIdeal.Gen
open Idealize.ShloMosaic Idealize.ShloMosaic.ValueIdx
open Cert.Proof.Row

/-! ## The constants -/

theorem scale_eq : (Scalar.ofBits .f32 0x41F00000#32 : Ideal .f32) = ((30 : ℝ) : EReal) := by
  show Ideal.ofBits .f32 0x41F00000#32 = _
  simp [Ideal.ofBits, Ideal.ieee, -EReal.coe_mul]
  norm_num

theorem least_eq : (FloatOps.ofBits .f32 0xFF800000#32 : Ideal .f32) = (⊥ : EReal) := by
  show Ideal.ofBits .f32 0xFF800000#32 = _
  simp [Ideal.ofBits, Ideal.ieee]

/-- The value of the pattern nearest to 1e-30, below which the kernel does not let a row's sum fall. -/
def floorVal : ℝ := 10633824 / 2 ^ 123

theorem floor_eq : (Scalar.ofBits .f32 0x0DA24260#32 : Ideal .f32) = (floorVal : EReal) := by
  show Ideal.ofBits .f32 0x0DA24260#32 = _
  unfold floorVal
  simp [Ideal.ofBits, Ideal.ieee, -EReal.coe_mul]
  norm_num

theorem floor_pos : 0 < floorVal := by unfold floorVal; positivity

theorem floor_le : floorVal ≤ Real.exp (-69) := le_trans (by unfold floorVal; norm_num) exp_69

/-! ## The reductions and the vectors of a block -/

theorem lift_col (l : Fin 2048) (j : Fin 100) : reduces_S100x2048_S2048.lift (ix1 l) j = ix2 j l := by
  funext a
  apply Fin.ext
  match a with
  | ⟨0, _⟩ => rfl
  | ⟨1, _⟩ => rfl

/-- A column's largest entry; -/
theorem col_max (v : FVec Ideal S100x2048 .f32) (l : Fin 2048) :
    multiReduction .maximumf [0] S2048 v 0xFF800000#32 reduces_S100x2048_S2048 (.inl rfl) rfl (ix1 l)
      = Finset.univ.sup fun j : Fin 100 => (v (ix2 j l) : EReal) := by
  refine (Ideal.multiReduction_maximumf_single v _ _ _ _ _).trans ?_
  rw [least_eq]
  show Finset.univ.sup (fun j : Fin 100 => (v (reduces_S100x2048_S2048.lift (ix1 l) j) : EReal)) = _
  exact Finset.sup_congr rfl fun j _ => congrArg v (lift_col l j)

/-- a column's sum. -/
theorem col_sum (v : FVec Ideal S100x2048 .f32) (l : Fin 2048) :
    multiReduction .add [0] S2048 v 0x00000000#32 reduces_S100x2048_S2048 (.inl rfl) rfl (ix1 l)
      = ∑ j : Fin 100, (v (ix2 j l) : EReal) := by
  exact (Ideal.multiReduction_add_single v _ _ _ _ _).trans <|
    Finset.sum_congr rfl fun j _ => congrArg v (lift_col l j)

/-- A block's indices are its columns' numbers. -/
def colEquiv : S1x1x2048.Idx ≃ Fin 2048 := ⟨fun i => i 2, fun l => ix3 0 0 l, fun i => by
  funext a
  match a with
  | ⟨0, _⟩ => exact Subsingleton.elim (α := Fin 1) _ _
  | ⟨1, _⟩ => exact Subsingleton.elim (α := Fin 1) _ _
  | ⟨2, _⟩ => rfl, fun _ => rfl⟩

/-- The sum of a block's vector. -/
theorem block_sum (v : FVec Ideal S1x1x2048 .f32) :
    extractAt ![0, 0, 0] (shapeCast S1x1x1 (multiReduction .add [1, 2] S1 v 0x00000000#32 reduces_S1x1x2048_S1 (.inl rfl) rfl)
      shapeCasts_S1_S1x1x1) inpos_S1x1x1_p0_0_0 = ∑ l : Fin 2048, (v (ix3 0 0 l) : EReal) := by
  unfold extractAt shapeCast
  refine (Ideal.multiReduction_add_total v _ _ (fun b => by fin_cases b; rfl) _ _ _).trans ?_
  rw [← colEquiv.symm.sum_comp]
  rfl

variable (x : FVec Ideal S100x2048 .f32) (o p b s : FVec Ideal S1x2048 .f32)

/-- The columns' exponentials relative to `b`; -/
def expVec : FVec Ideal S100x2048 .f32 :=
  exp (mulf (subf x (broadcastTo S100x2048 b broadcasts_S1x2048_S100x2048)) (broadcast S100x2048 (Scalar.ofBits .f32 0x41F00000#32)))
/-- the rows' losses, of the entries `o`, the margins `p`, the largest entries `b` and the sums `s`. -/
def lossVec : FVec Ideal S1x2048 .f32 :=
  addf (log (maximumf (addf (subf s (exp (mulf (subf o b) (broadcast S1x2048 (Scalar.ofBits .f32 0x41F00000#32)))))
      (exp (mulf (subf (subf o p) b) (broadcast S1x2048 (Scalar.ofBits .f32 0x41F00000#32)))))
      (broadcast S1x2048 (Scalar.ofBits .f32 0x0DA24260#32))))
    (mulf (broadcast S1x2048 (Scalar.ofBits .f32 0x41F00000#32)) (addf (subf b o) p))

theorem expVec_at (j : Fin 100) (l : Fin 2048) : expVec x b (ix2 j l) = Ideal.exp ((x (ix2 j l) - b (ix2 0 l) : EReal) * (30 : ℝ)) := by
  have h : expVec x b (ix2 j l) = Ideal.exp ((x (ix2 j l) - broadcastTo S100x2048 b broadcasts_S1x2048_S100x2048 (ix2 j l) : EReal)
      * (Scalar.ofBits .f32 0x41F00000#32 : Ideal .f32)) := rfl
  rw [h, scale_eq, broadcastTo_1b_ab_apply]

theorem lossVec_at (i : S1x2048.Idx) : lossVec o p b s i
    = Ideal.log (max ((s i - Ideal.exp ((o i - b i : EReal) * (30 : ℝ)) : EReal) + Ideal.exp (((o i - p i : EReal) - b i) * (30 : ℝ))) (floorVal : EReal))
      + ((30 : ℝ) : EReal) * ((b i - o i : EReal) + p i) := by
  rw [← scale_eq, ← floor_eq]
  rfl

/-- A block's loss. -/
theorem pay3_eq (x : Vec Ideal S100x2048 .f32) (o p : Vec Ideal S1x1x2048 .f32) (c : Fin 2048 → Fin 100)
    (ho : ∀ l, o (ix3 0 0 l) = x (ix2 (c l) l)) :
    k1_pay3 x o p = ∑ l : Fin 2048, kerRow (floorVal : EReal) (fun j => x (ix2 j l)) (Finset.univ.sup fun j => (x (ix2 j l) : EReal))
      (p (ix3 0 0 l)) (c l) := by
  let x' : FVec Ideal S100x2048 .f32 := shapeCast S100x2048 x shapeCasts_S100x2048_S100x2048
  let b : FVec Ideal S1x2048 .f32 := shapeCast S1x2048 (multiReduction .maximumf [0] S2048 x' 0xFF800000#32 reduces_S100x2048_S2048 (.inl rfl) rfl)
    shapeCasts_S2048_S1x2048
  let s : FVec Ideal S1x2048 .f32 := shapeCast S1x2048 (multiReduction .add [0] S2048 (expVec x' b) 0x00000000#32 reduces_S100x2048_S2048 (.inl rfl) rfl)
    shapeCasts_S2048_S1x2048
  have e : k1_pay3 x o p = extractAt ![0, 0, 0] (shapeCast S1x1x1 (multiReduction .add [1, 2] S1 (shapeCast S1x1x2048
      (lossVec (shapeCast S1x2048 o shapeCasts_S1x1x2048_S1x2048) (shapeCast S1x2048 p shapeCasts_S1x1x2048_S1x2048) b s)
      shapeCasts_S1x2048_S1x1x2048) 0x00000000#32 reduces_S1x1x2048_S1 (.inl rfl) rfl) shapeCasts_S1_S1x1x1) inpos_S1x1x1_p0_0_0 := rfl
  have hx : x' = x := shapeCast_self _ _
  have hb (l : Fin 2048) : b (ix2 0 l) = Finset.univ.sup fun j => (x (ix2 j l) : EReal) := by
    rw [show b (ix2 0 l) = _ from shapeCast_a_1a_apply _ _ _ _, col_max, hx]
  have hs (l : Fin 2048) : s (ix2 0 l) = ∑ j : Fin 100, Ideal.exp ((x (ix2 j l) - b (ix2 0 l) : EReal) * (30 : ℝ)) := by
    rw [show s (ix2 0 l) = _ from shapeCast_a_1a_apply _ _ _ _, col_sum]
    exact Finset.sum_congr rfl fun j _ => by rw [expVec_at, hx]
  rw [e, block_sum]
  refine Finset.sum_congr rfl fun l _ => ?_
  rw [shapeCast_ab_1ab_apply, lossVec_at, shapeCast_1ab_ab_apply, shapeCast_1ab_ab_apply, hs, hb, ho]
  rfl

end Cert.Proof.KernelIdeal

end
-- ==== Proof.Reference.Points.lean ====
/-
  The reference's gathers and its scatter, read at a row: the entry that the row's class names.
-/
module

public import proofs.«01_k».proof.Proof.Gen.ReferenceIdeal.Run
public import proofs.«01_k».proof.Proof.KernelIdeal.Setup
public import Idealize.ShloMosaic.Lib.Routing.OpsSet
public import Idealize.ShloMosaic.Lib.Pipeline.Value

@[expose] public section

noncomputable section

namespace Cert.Proof.Reference

open Idealize.ShloMosaic Idealize.ShloMosaic.ValueIdx Cert.ReferenceIdeal Cert.ReferenceIdeal.Gen
open Cert.Proof.KernelIdeal (cls)

variable {α : Type}

/-- The class words as the reference's indexing writes them: a negative word has 100 added. -/
def wrapT (t : S16384.Idx → BitVec 32) : IVec S16384x1 32 :=
  broadcastInDim S16384x1 ![0] bcast_S16384_S16384x1_0
    (select (cmpi .slt t (broadcastInDim S16384 ![] bcast_S_S16384 (constantI S_ 32 0#32)))
      (addi t (broadcastInDim S16384 ![] bcast_S_S16384 (constantI S_ 32 100#32))) t)

/-- The row numbers likewise. -/
def wrapR : IVec S16384x1 32 :=
  broadcastInDim S16384x1 ![0] bcast_S16384_S16384x1_0
    (select (cmpi .slt (iotaInDim S16384 32 0) (broadcastInDim S16384 ![] bcast_S_S16384 (constantI S_ 32 0#32)))
      (addi (iotaInDim S16384 32 0) (broadcastInDim S16384 ![] bcast_S_S16384 (constantI S_ 32 16384#32))) (iotaInDim S16384 32 0))

/-- The two side by side: row number and class of each row. -/
def pairs (t : S16384.Idx → BitVec 32) : IVec S16384x2 32 :=
  concatenate S16384x2 1 [⟨S16384x1, wrapR⟩, ⟨S16384x1, wrapT t⟩] concatenates_S16384x1_S16384x1_S16384x2_d1

theorem column {v : S16384.Idx → BitVec 32} (r : Fin 16384) :
    broadcastInDim S16384x1 ![0] bcast_S16384_S16384x1_0 v (ix2 r (0 : Fin 1)) = v (ix1 r) := by
  have := StableHlo.Predicate.bcast_col1 bcast_S16384_S16384x1_0 v r
  rwa [Routing.ixP_eq_ix2, Routing.ofFin_eq_ix1] at this

theorem wrapT_at {t : S16384.Idx → BitVec 32} (ht : ∀ r, (t r).toNat < 100) (r : Fin 16384) : wrapT t (ix2 r (0 : Fin 1)) = t (ix1 r) :=
  (column r).trans (Routing.wrap_of_lt _ _ (lt_trans (ht _) (by decide)))

theorem wrapR_at (r : Fin 16384) : wrapR (ix2 r (0 : Fin 1)) = BitVec.ofNat 32 r.val :=
  (column r).trans (Routing.wrap_of_lt (BitVec.ofNat 32 r.val) _ (by
    rw [BitVec.toNat_ofNat, Nat.mod_eq_of_lt (by omega)]
    omega))

theorem pairs_row (t : S16384.Idx → BitVec 32) (r : Fin 16384) : pairs t (ix2 r (0 : Fin 2)) = BitVec.ofNat 32 r.val := by
  rw [← wrapR_at]
  refine concatenate_pair_apply_left (α := BitVec 32) (t := S16384x2) (s₁ := S16384x1) (s₂ := S16384x1) 1 _ _ _ _ rfl _ fun b => ?_
  match b with
  | ⟨0, _⟩ => rfl
  | ⟨1, _⟩ => rfl

theorem pairs_class {t : S16384.Idx → BitVec 32} (ht : ∀ r, (t r).toNat < 100) (r : Fin 16384) : pairs t (ix2 r (1 : Fin 2)) = t (ix1 r) := by
  rw [← wrapT_at ht]
  refine concatenate_pair_apply_right (α := BitVec 32) (t := S16384x2) (s₁ := S16384x1) (s₂ := S16384x1) 1 _ _ _ _ rfl rfl _ (fun b hb => ?_) rfl
  match b with
  | ⟨0, _⟩ => rfl
  | ⟨1, _⟩ => exact absurd rfl hb

theorem cls_val {t : S16384.Idx → BitVec 32} (ht : ∀ r, (t r).toNat < 100) (r : Fin 16384) : (cls t r).val = (t (ix1 r)).toNat :=
  Nat.mod_eq_of_lt (ht _)

theorem class_word {t : S16384.Idx → BitVec 32} (ht : ∀ r, (t r).toNat < 100) (r : Fin 16384) : t (ix1 r) = BitVec.ofNat 32 (cls t r).val := by
  rw [cls_val ht]
  exact BitVec.eq_of_toNat_eq (by rw [BitVec.toNat_ofNat, Nat.mod_eq_of_lt (t (ix1 r)).isLt])

theorem row_toInt (t : S16384.Idx → BitVec 32) (r : Fin 16384) : (pairs t (ix2 r (0 : Fin 2))).toInt = r.val := by
  rw [pairs_row, StableHlo.Predicate.toInt_ofNat_small _ (by omega)]

theorem class_toInt {t : S16384.Idx → BitVec 32} (ht : ∀ r, (t r).toNat < 100) (r : Fin 16384) :
    (pairs t (ix2 r (1 : Fin 2))).toInt = (cls t r).val := by
  rw [pairs_class ht, class_word ht, StableHlo.Predicate.toInt_ofNat_small _ (by have := (cls t r).isLt; omega)]

/-- The margins' gather reads the margin of the row's class. -/
theorem gather_margin {t : S16384.Idx → BitVec 32} (ht : ∀ r, (t r).toNat < 100) (w : S100.Idx → α) (r : Fin 16384) :
    Host.gather gather_S100_S16384x1_S16384_n_0_n_n_0_1_1 w (wrapT t) (ix1 r) = w (ix1 (cls t r)) :=
  Routing.gather_take1 _ rfl rfl rfl rfl w _ r (cls t r) ((wrapT_at ht r).trans (class_word ht r)) (by decide)

/-- The index at which the pair gather reads component `q` of row `r`'s start. -/
theorem gather_start (r : Fin 16384) (q : Fin 2) :
    gather_S16384x100_S16384x2_S16384_n_01_n_n_01_1_11.siIdx (ix1 r) q = ix2 r q := by
  funext b
  apply Fin.ext
  match b with
  | ⟨0, _⟩ => rfl
  | ⟨1, _⟩ => rfl

/-- The gather at row number and class reads the row's entry at its class. -/
theorem gather_entry {t : S16384.Idx → BitVec 32} (ht : ∀ r, (t r).toNat < 100) (x : S16384x100.Idx → α) (r : Fin 16384) :
    Host.gather gather_S16384x100_S16384x2_S16384_n_01_n_n_01_1_11 x (pairs t) (ix1 r) = x (ix2 r (cls t r)) := by
  unfold Host.gather
  congr 1
  funext a
  apply Fin.ext
  have hb : a ∉ gather_S16384x100_S16384x2_S16384_n_01_n_n_01_1_11.operandBatchingDims := List.not_mem_nil
  have hm : a ∈ gather_S16384x100_S16384x2_S16384_n_01_n_n_01_1_11.startIndexMap := by
    show a ∈ [(0 : Fin 2), 1]
    fin_cases a <;> simp
  have hk : a ∉ gather_S16384x100_S16384x2_S16384_n_01_n_n_01_1_11.sKept := fun h => ((GatherDims.mem_sKept _ _).mp h).1 (by
    show a ∈ [(0 : Fin 2), 1]
    fin_cases a <;> simp)
  simp only [GatherDims.operandIdx, GatherDims.batchCoord_eq_zero _ _ _ hb, GatherDims.offCoord_eq_zero _ _ _ hk, Nat.add_zero,
    GatherDims.start, dif_pos hm]
  match a with
  | ⟨0, _⟩ =>
    show min (pairs t (gather_S16384x100_S16384x2_S16384_n_01_n_n_01_1_11.siIdx (ix1 r) (0 : Fin 2))).toInt.toNat (16384 - 1) = r.val
    rw [gather_start, row_toInt]
    omega
  | ⟨1, _⟩ =>
    show min (pairs t (gather_S16384x100_S16384x2_S16384_n_01_n_n_01_1_11.siIdx (ix1 r) (1 : Fin 2))).toInt.toNat (100 - 1) = (cls t r).val
    rw [gather_start, class_toInt ht]
    omega

/-- The index at which the scatter reads component `q` of row `r`'s place. -/
theorem scatter_start (r : Fin 16384) (q : Fin 2) :
    scatter_S16384x100_S16384x2_S16384_n_01_01_1.siIdx (ix1 r) q = ix2 r q := by
  funext b
  apply Fin.ext
  match b with
  | ⟨0, _⟩ => rfl
  | ⟨1, _⟩ => rfl

/-- Update `k` of the scatter lands at row `k` and that row's class. -/
theorem scatter_lands {t : S16384.Idx → BitVec 32} (ht : ∀ r, (t r).toNat < 100) (k r : Fin 16384) (j : Fin 100) :
    scatter_S16384x100_S16384x2_S16384_n_01_01_1.resultIdx? (ix1 k) (pairs t) = some (ix2 r j) ↔ k = r ∧ cls t k = j := by
  have hm : ∀ q : Fin 2, q ∈ scatter_S16384x100_S16384x2_S16384_n_01_01_1.scatterDimsToOperandDims := fun q => by
    show q ∈ [(0 : Fin 2), 1]
    fin_cases q <;> simp
  have hw : ∀ q : Fin 2, scatter_S16384x100_S16384x2_S16384_n_01_01_1.window (ix1 k) q = 0 := fun q => by
    unfold ScatterDims.window
    rw [dif_neg fun h => (of_decide_eq_true (List.mem_filter.1 h).2) (by show q ∈ [(0 : Fin 2), 1]; fin_cases q <;> simp)]
  have h0 : scatter_S16384x100_S16384x2_S16384_n_01_01_1.start (ix1 k) (pairs t) 0 = k.val := by
    unfold ScatterDims.start
    rw [dif_pos (hm 0)]
    show (pairs t (scatter_S16384x100_S16384x2_S16384_n_01_01_1.siIdx (ix1 k) (0 : Fin 2))).toInt = _
    rw [scatter_start, row_toInt]
  have h1 : scatter_S16384x100_S16384x2_S16384_n_01_01_1.start (ix1 k) (pairs t) 1 = (cls t k).val := by
    unfold ScatterDims.start
    rw [dif_pos (hm 1)]
    show (pairs t (scatter_S16384x100_S16384x2_S16384_n_01_01_1.siIdx (ix1 k) (1 : Fin 2))).toInt = _
    rw [scatter_start, class_toInt ht]
  rw [Routing.resultIdx?_ix2, h0, h1, hw, hw, Fin.ext_iff, Fin.ext_iff]
  omega

/-- The scatter replaces in each row the entry at its class, and no other. -/
theorem scatter_entry {t : S16384.Idx → BitVec 32} (ht : ∀ r, (t r).toNat < 100) (x : S16384x100.Idx → α) (u : S16384.Idx → α)
    (r : Fin 16384) (j : Fin 100) :
    Host.scatter scatter_S16384x100_S16384x2_S16384_n_01_01_1 (fun _ b => b) x (pairs t) u (ix2 r j)
      = if j = cls t r then u (ix1 r) else x (ix2 r j) := by
  split
  · rename_i h
    refine Routing.scatter_set_hit _ _ _ _ _ _ (fun k hk => ?_) (ix1 r) ((scatter_lands ht r r j).mpr ⟨rfl, h.symm⟩)
    rw [eq_ix1 k] at hk ⊢
    rw [((scatter_lands ht _ r j).mp hk).1]
    rfl
  · rename_i h
    refine Routing.scatter_set_miss _ _ _ _ _ fun k hk => h ?_
    rw [eq_ix1 k] at hk
    obtain ⟨e, e'⟩ := (scatter_lands ht _ r j).mp hk
    rw [← e', e]

end Cert.Proof.Reference

end
-- ==== Proof.Reference.Value.lean ====
/-
  The reference's result over the extended reals: the mean over the rows of the rows' losses.
-/
module

public import proofs.«01_k».proof.Proof.Reference.Points
public import proofs.«01_k».proof.Proof.Row
public import Idealize.ShloMosaic.Lib.IdealHost
public import Idealize.ShloMosaic.PureOps.Ideal.Laws

@[expose] public section

noncomputable section

namespace Cert.Proof.Reference

open Idealize.ShloMosaic Idealize.ShloMosaic.TcCoe Idealize.ShloMosaic.ValueIdx Cert.ReferenceIdeal Cert.ReferenceIdeal.Gen
open Cert.Proof.KernelIdeal (cls)
open Cert.Proof.Row

theorem ofBits_scale : Ideal.ofBits .f32 0x41F00000#32 = ((30 : ℝ) : EReal) := by
  simp [Ideal.ofBits, Ideal.ieee, -EReal.coe_mul]
  norm_num

theorem ofBits_count : Ideal.ofBits .f32 0x46800000#32 = ((16384 : ℝ) : EReal) := by
  simp [Ideal.ofBits, Ideal.ieee, -EReal.coe_mul]
  norm_num

theorem ofBits_zero : Ideal.ofBits .f32 0x00000000#32 = (0 : EReal) := by
  simp [Ideal.ofBits, Ideal.ieee]

variable (x : FVec Ideal S16384x100 .f32) (w : FVec Ideal S100 .f32) (t : IVec S16384 32)

/-- The scaled logits, the margins taken off the target entries. -/
def logits : FVec Ideal S16384x100 .f32 :=
  mulf (Host.scatter scatter_S16384x100_S16384x2_S16384_n_01_01_1 (fun _ b => b) x (pairs t)
      (subf (Host.gather gather_S16384x100_S16384x2_S16384_n_01_n_n_01_1_11 x (pairs t))
        (Host.gather gather_S100_S16384x1_S16384_n_0_n_n_0_1_1 w (wrapT t))))
    (broadcastInDim S16384x100 ![] bcast_S_S16384x100 (constant S_ .f32 0x41F00000#32))

/-- The rows' losses. -/
def losses : FVec Ideal S16384 .f32 :=
  subf (Host.log (Host.reduceAdd (Host.exp (logits x w t)) (constant S_ .f32 0x00000000#32) reducesTo_S16384x100_S16384_d1 h_S_))
    (Host.gather gather_S16384x100_S16384x2_S16384_n_01_n_n_01_1_11 (logits x w t) (pairs t))

/-- The mean of the losses of the rows. -/
def mean : EReal := (∑ r : Fin 16384, refRow (fun j => x (ix2 r j)) (w (ix1 (cls t r))) (cls t r)) * ((1 / 16384 : ℝ) : EReal)

variable {t}

theorem logits_at (ht : ∀ r, (t r).toNat < 100) (r : Fin 16384) (j : Fin 100) :
    logits x w t (ix2 r j) = shifted (fun j => x (ix2 r j)) (w (ix1 (cls t r))) (cls t r) j * (30 : ℝ) := by
  have h : logits x w t (ix2 r j) = Host.scatter scatter_S16384x100_S16384x2_S16384_n_01_01_1 (fun _ b => b) x (pairs t)
      (subf (Host.gather gather_S16384x100_S16384x2_S16384_n_01_n_n_01_1_11 x (pairs t))
        (Host.gather gather_S100_S16384x1_S16384_n_0_n_n_0_1_1 w (wrapT t))) (ix2 r j) * Ideal.ofBits .f32 0x41F00000#32 := rfl
  rw [h, ofBits_scale, scatter_entry ht]
  unfold shifted
  split
  · refine congrArg (· * ((30 : ℝ) : EReal)) ?_
    show Host.gather gather_S16384x100_S16384x2_S16384_n_01_n_n_01_1_11 x (pairs t) (ix1 r)
      - Host.gather gather_S100_S16384x1_S16384_n_0_n_n_0_1_1 w (wrapT t) (ix1 r) = _
    rw [gather_entry ht, gather_margin ht]
  · rfl

theorem reduces_rows : S16384x100.Reduces [1] S16384 := by decide

theorem lift_row (r : Fin 16384) (j : Fin 100) : reduces_rows.lift (ix1 r) j = ix2 r j := by
  funext a
  apply Fin.ext
  match a with
  | ⟨0, _⟩ => rfl
  | ⟨1, _⟩ => rfl

/-- The rows' indices are the row numbers. -/
def rowEquiv : S16384.Idx ≃ Fin 16384 := ⟨fun i => i 0, fun r => ix1 r, fun i => (eq_ix1 i).symm, fun _ => rfl⟩

/-- The last steps of the losses at a row: the logarithm of the row's sum less the row's picked entry. -/
theorem loss_step (s g : FVec Ideal S16384 .f32) (i : S16384.Idx) : subf (Host.log s) g i = Ideal.log (s i) - g i := rfl

theorem exp_step (y : FVec Ideal S16384x100 .f32) (i : S16384x100.Idx) : Host.exp y i = Ideal.exp (y i) := rfl

/-- The host's sum over a row's classes, from zero. -/
theorem row_sum (y : FVec Ideal S16384x100 .f32) (r : Fin 16384) :
    Host.reduceAdd y (constant S_ .f32 0x00000000#32) reducesTo_S16384x100_S16384_d1 h_S_ (ix1 r) = ∑ j : Fin 100, y (ix2 r j) := by
  have z : (constant S_ .f32 0x00000000#32 : FVec Ideal S_ .f32) (Shape.Idx.first h_S_) = (0 : EReal) := ofBits_zero
  rw [hostReduceAdd_apply, Ideal.hostReduceAdd_single _ reduces_rows, z, zero_add]
  exact Finset.sum_congr rfl fun j _ => congrArg y (lift_row r j)

theorem losses_at (ht : ∀ r, (t r).toNat < 100) (r : Fin 16384) :
    losses x w t (ix1 r) = refRow (fun j => x (ix2 r j)) (w (ix1 (cls t r))) (cls t r) := by
  have s : (∑ j : Fin 100, Host.exp (logits x w t) (ix2 r j))
      = ∑ j : Fin 100, Ideal.exp (shifted (fun j => x (ix2 r j)) (w (ix1 (cls t r))) (cls t r) j * (30 : ℝ)) := by
    refine Finset.sum_congr rfl fun j _ => ?_
    rw [exp_step, logits_at x w ht]
  unfold losses
  rw [loss_step, row_sum, s, gather_entry ht, logits_at x w ht, refRow]

theorem result_eq (ht : ∀ r, (t r).toNat < 100) :
    Host.divf (Host.reduceAdd (losses x w t) (constant S_ .f32 0x00000000#32) reducesTo_S16384_S_d0 h_S_) (constant S_ .f32 0x46800000#32)
      = fun _ => mean x w t := by
  funext i
  have z : (constant S_ .f32 0x00000000#32 : FVec Ideal S_ .f32) (Shape.Idx.first h_S_) = (0 : EReal) := ofBits_zero
  have c : (constant S_ .f32 0x46800000#32 : FVec Ideal S_ .f32) i = ((16384 : ℝ) : EReal) := ofBits_count
  rw [hostDivf_apply, hostReduceAdd_apply, Ideal.hostReduceAdd_total _ (fun b => b.elim0), z, c, zero_add, Ideal.div_coe (by norm_num)]
  unfold mean
  refine congrArg (· * ((1 / 16384 : ℝ) : EReal)) ?_
  rw [← rowEquiv.symm.sum_comp]
  exact Finset.sum_congr rfl fun r _ => losses_at x w ht r

open Cert.ReferenceIdeal.Value in
/-- The reference's result is the mean of the rows' losses of its arguments. -/
theorem res_eq (m : (ℓ : Loc nD τ sig) → Buf (Elt Ideal) ℓ) (c : Dev nD)
    (ht : ∀ r : S16384.Idx, ((m ((c.tc : Thread nD τ).loc main_arg2) : S16384.Idx → BitVec 32) r).toNat < 100) :
    res_out0 m c = fun _ => mean (m ((c.tc : Thread nD τ).loc main_arg0)) (m ((c.tc : Thread nD τ).loc main_arg1)) (m ((c.tc : Thread nD τ).loc main_arg2)) := by
  exact Eq.trans rfl (result_eq _ _ ht)

end Cert.Proof.Reference

end
-- ==== Proof.KernelIdeal.Value.lean ====
/-
  The kernel's result over the extended reals: the blocks it reads, the sum of the blocks' losses, and that it is the mean of
  the rows' losses in the reference's form.
-/
module

public import proofs.«01_k».proof.Proof.KernelIdeal.BlockLoss
public import proofs.«01_k».proof.Proof.KernelIdeal.Launch
public import proofs.«01_k».proof.Proof.Reference.Value

@[expose] public section

noncomputable section

namespace Cert.Proof.KernelIdeal

open Cert.KernelIdeal Cert.KernelIdeal.Gen
open Idealize.ShloMosaic Idealize.ShloMosaic.ValueIdx Idealize.ShloMosaic.TcCoe
open Cert.Proof.Row

/-! ## The blocks -/

/-- Row `l` of block `t`. -/
def blockRow (t : Fin 8) (l : Fin 2048) : Fin 16384 := ⟨2048 * t.val + l.val, by omega⟩

/-- The blocks' rows are all the rows. -/
def blockEquiv : Fin 8 × Fin 2048 ≃ Fin 16384 where
  toFun q := blockRow q.1 q.2
  invFun r := (⟨r.val / 2048, by omega⟩, ⟨r.val % 2048, Nat.mod_lt _ (by decide)⟩)
  left_inv q := by
    apply Prod.ext
    · apply Fin.ext; show (2048 * q.1.val + q.2.val) / 2048 = q.1.val; omega
    · apply Fin.ext; show (2048 * q.1.val + q.2.val) % 2048 = q.2.val; omega
  right_inv r := by apply Fin.ext; show 2048 * (r.val / 2048) + r.val % 2048 = r.val; omega

section Blocks

variable {F : FTy → Type} (V : Entry F) (c : Dev nD)

/-- A point of the grid from its number. -/
def point (t : Fin 8) : Fin cfg1.N := ⟨t.val, by rw [show cfg1.N = 8 from N_1]; exact t.isLt⟩

theorem index_x (t : Fin 8) : win1_0.index (point t) = ![0, t.val] := by revert t; decide +kernel
theorem index_o (t : Fin 8) : win1_1.index (point t) = ![t.val, 0, 0] := by revert t; decide +kernel
theorem index_p (t : Fin 8) : win1_2.index (point t) = ![t.val, 0, 0] := by revert t; decide +kernel

theorem blkX_at (t : Fin 8) (j : Fin 100) (l : Fin 2048) :
    blkX V c (point t) (ix2 j l) = (V.x c : S100x16384.Idx → Elt F .f32) (ix2 j (blockRow t l)) := by
  refine (View.read_apply _ _).trans ((cast_eq _ _).trans ?_)
  refine congrArg (V.x c : S100x16384.Idx → Elt F .f32) ?_
  funext a
  apply Fin.ext
  have e := index_x t
  match a with
  | ⟨0, _⟩ => show win1_0.index (point t) 0 * 100 + 1 * j.val = j.val; rw [e]; simp
  | ⟨1, _⟩ => show win1_0.index (point t) 1 * 2048 + 1 * l.val = 2048 * t.val + l.val; rw [e]; simp; omega

theorem blkO_at (t : Fin 8) (l : Fin 2048) :
    blkO V c (point t) (ix3 0 0 l) = (V.o c : S8x1x2048.Idx → Elt F .f32) (ix3 t 0 l) := by
  refine (View.read_apply _ _).trans ((cast_eq _ _).trans ?_)
  refine congrArg (V.o c : S8x1x2048.Idx → Elt F .f32) ?_
  funext a
  apply Fin.ext
  have e := index_o t
  match a with
  | ⟨0, _⟩ => show win1_1.index (point t) 0 * 1 + 1 * 0 = t.val; rw [e]; simp
  | ⟨1, _⟩ => show win1_1.index (point t) 1 * 1 + 1 * 0 = 0; rw [e]; simp
  | ⟨2, _⟩ => show win1_1.index (point t) 2 * 2048 + 1 * l.val = l.val; rw [e]; simp

theorem blkP_at (t : Fin 8) (l : Fin 2048) :
    blkP V c (point t) (ix3 0 0 l) = (V.p c : S8x1x2048.Idx → Elt F .f32) (ix3 t 0 l) := by
  refine (View.read_apply _ _).trans ((cast_eq _ _).trans ?_)
  refine congrArg (V.p c : S8x1x2048.Idx → Elt F .f32) ?_
  funext a
  apply Fin.ext
  have e := index_p t
  match a with
  | ⟨0, _⟩ => show win1_2.index (point t) 0 * 1 + 1 * 0 = t.val; rw [e]; simp
  | ⟨1, _⟩ => show win1_2.index (point t) 1 * 1 + 1 * 0 = 0; rw [e]; simp
  | ⟨2, _⟩ => show win1_2.index (point t) 2 * 2048 + 1 * l.val = l.val; rw [e]; simp

theorem rowOf_at (t : Fin 8) (l : Fin 2048) : rowOf (ix3 t 0 l) = blockRow t l := rfl

end Blocks

/-! ## The sum of the blocks -/

theorem share_eq : (Scalar.ofBits .f32 0x38800000#32 : Ideal .f32) = ((1 / 16384 : ℝ) : EReal) := by
  show Ideal.ofBits .f32 0x38800000#32 = _
  simp [Ideal.ofBits, Ideal.ieee, -EReal.coe_mul]
  norm_num

theorem start_eq : (Scalar.ofBits .f32 0x00000000#32 : Ideal .f32) = (0 : EReal) := Reference.ofBits_zero

/-- The accumulator after the last point: the sum of the blocks' losses, scaled. -/
theorem acc_last (V : Entry Ideal) (c : Dev nD) (h : 7 < cfg1.N) :
    acc V c 7 h = (∑ t : Fin 8, (blockLoss V c (point t) : EReal)) * ((1 / 16384 : ℝ) : EReal) := by
  have e : acc V c 7 h = ((((((((Scalar.ofBits .f32 0x00000000#32 : Ideal .f32) + blockLoss V c (point 0) : EReal) + blockLoss V c (point 1)
    + blockLoss V c (point 2)) + blockLoss V c (point 3)) + blockLoss V c (point 4)) + blockLoss V c (point 5)) + blockLoss V c (point 6))
    + blockLoss V c (point 7)) * (Scalar.ofBits .f32 0x38800000#32 : Ideal .f32) := rfl
  rw [e, start_eq, share_eq, zero_add, Fin.sum_univ_eight]

variable (m : (ℓ : Loc nD τ sig) → Buf (Elt Ideal) ℓ)

/-- A block's loss: the sum of its rows' losses. -/
theorem blockLoss_eq (d : Dev nD)
    (hm : ∀ i, ∃ x : ℝ, (m (mLoc d) : FVec Ideal S100 .f32) i = (x : EReal) ∧ x ≤ 23 / 10) (t : Fin 8) :
    blockLoss (entry m) d (point t) = ∑ l : Fin 2048, refRow (fun j => (m (aLoc d) : FVec Ideal S16384x100 .f32) (ix2 (blockRow t l) j))
      ((m (mLoc d) : FVec Ideal S100 .f32) (ix1 (cls (m (tLoc d)) (blockRow t l)))) (cls (m (tLoc d)) (blockRow t l)) := by
  have hx (j : Fin 100) (l : Fin 2048) : blkX (entry m) d (point t) (ix2 j l)
      = (m (aLoc d) : FVec Ideal S16384x100 .f32) (ix2 (blockRow t l) j) :=
    (blkX_at (entry m) d t j l).trans (transpose_ix2_apply _ _ _ _)
  have ho (l : Fin 2048) : blkO (entry m) d (point t) (ix3 0 0 l)
      = blkX (entry m) d (point t) (ix2 (cls (m (tLoc d)) (blockRow t l)) l) :=
    (blkO_at (entry m) d t l).trans (blkX_at (entry m) d t _ l).symm
  have hp (l : Fin 2048) : blkP (entry m) d (point t) (ix3 0 0 l)
      = (m (mLoc d) : FVec Ideal S100 .f32) (ix1 (cls (m (tLoc d)) (blockRow t l))) := blkP_at (entry m) d t l
  unfold blockLoss
  rw [pay3_eq _ _ _ (fun l => cls (m (tLoc d)) (blockRow t l)) ho]
  refine Finset.sum_congr rfl fun l _ => ?_
  obtain ⟨y, hy, hy'⟩ := hm (ix1 (cls (m (tLoc d)) (blockRow t l)))
  simp only [hx, hp]
  rw [hy]
  exact row_eq floor_pos floor_le _ hy' _

/-- The kernel's result is the mean of the rows' losses. -/
theorem result_eq (d : Dev nD)
    (hm : ∀ i, ∃ x : ℝ, (m (mLoc d) : FVec Ideal S100 .f32) i = (x : EReal) ∧ x ≤ 23 / 10) :
    result m d = fun _ => Reference.mean (m (aLoc d)) (m (mLoc d)) (m (tLoc d)) := by
  funext i
  refine (acc_last (entry m) d _).trans ?_
  unfold Reference.mean
  refine congrArg (· * ((1 / 16384 : ℝ) : EReal)) ?_
  rw [← blockEquiv.sum_comp, Fintype.sum_prod_type]
  exact Finset.sum_congr rfl fun t _ => blockLoss_eq m d hm t

end Cert.Proof.KernelIdeal

end
-- ==== Proof.Pre.lean ====
/-
  What the two preconditions say of the arguments, entry by entry.
-/
module

public import proofs.«01_k».proof.Defs
public import proofs.«01_k».proof.Proof.Gen.Pre_targets_in_range
public import proofs.«01_k».proof.Proof.Gen.Pre_margins_bounded
public import Idealize.ShloMosaic.Lib.ReduceAll
public import Idealize.ShloMosaic.Lib.IdealHost

@[expose] public section

noncomputable section

namespace Cert.Proof.Pre

open Idealize.ShloMosaic

theorem andi_eq_one {p q : BitVec 1} (h : IntOp.andi p q = 1#1) : p = 1#1 ∧ q = 1#1 := by
  revert p q; decide

theorem ofBool_eq_one {p : Bool} (h : BitVec.ofBool p = 1#1) : p = true := by revert p; decide

/-- A word that is non-negative and below 100 as a signed word is below 100. -/
theorem word_lt {v : BitVec 32} (e : IntOp.andi (IntOp.cmpi .sge v 0#32) (IntOp.cmpi .slt v 100#32) = 1#1) : v.toNat < 100 := by
  obtain ⟨h1, h2⟩ := andi_eq_one e
  have h1 := ofBool_eq_one h1
  have h2 := ofBool_eq_one h2
  simp only [BitVec.sle_eq_decide, BitVec.slt_eq_decide, decide_eq_true_eq, BitVec.toInt_eq_toNat_cond, BitVec.toNat_ofNat,
    Nat.reducePow, Nat.reduceMod] at h1 h2
  omega

/-- The index precondition puts every class word below 100. -/
theorem targets_lt {F : FTy → Type} [FloatOps F] {a : FVec F Cert.Pre_targets_in_range.S16384x100 .f32}
    {w : FVec F Cert.Pre_targets_in_range.S100 .f32} {t : IVec Cert.Pre_targets_in_range.S16384 32}
    (h : Cert.Pre_targets_in_range.fn a w t = fun _ => 1#1) (r : Cert.Pre_targets_in_range.S16384.Idx) : (t r).toNat < 100 := by
  have e := congrFun h default
  dsimp only [Cert.Pre_targets_in_range.fn] at e
  exact word_lt (Host.reduce_andi_all _ _ _ _ _ e r)

/-- The pattern of minus infinity is the least value. -/
theorem ofBits_neg_inf : Ideal.ofBits .f32 0xFF800000#32 = (⊥ : EReal) := by
  simp [Ideal.ofBits, Ideal.ieee]

/-- The value of the single-precision pattern nearest to 2.3. -/
theorem ofBits_bound : Ideal.ofBits .f32 0x40133333#32 = ((9646899 / 4194304 : ℝ) : EReal) := by
  simp [Ideal.ofBits, Ideal.ieee, -EReal.coe_mul]
  norm_num

/-- The margins' precondition: the class words are below 100, and every margin is a real number that is at most 2.3. -/
theorem margin_facts {a : FVec Ideal Cert.Pre_margins_bounded.S16384x100 .f32}
    {w : FVec Ideal Cert.Pre_margins_bounded.S100 .f32} {t : IVec Cert.Pre_margins_bounded.S16384 32}
    (h : Cert.Pre_margins_bounded.fn a w t = fun _ => 1#1) :
    (∀ r, (t r).toNat < 100) ∧ ∀ i, ∃ x : ℝ, w i = (x : EReal) ∧ x ≤ 23 / 10 := by
  have e := congrFun h default
  dsimp only [Cert.Pre_margins_bounded.fn] at e
  obtain ⟨e, e3⟩ := andi_eq_one e
  obtain ⟨e1, e2⟩ := andi_eq_one e
  refine ⟨fun r => word_lt (Host.reduce_andi_all _ _ _ _ _ e1 r), fun i => ?_⟩
  have h2 : Ideal.cmp .ogt (w i) (Ideal.ofBits .f32 0xFF800000#32) = 1#1 := Host.reduce_andi_all _ _ _ _ _ e2 i
  have h3 : Ideal.cmp .ole (w i) (Ideal.ofBits .f32 0x40133333#32) = 1#1 := Host.reduce_andi_all _ _ _ _ _ e3 i
  rw [ofBits_neg_inf] at h2
  rw [ofBits_bound] at h3
  have h2 := of_decide_eq_true (ofBool_eq_one h2)
  have h3 : w i ≤ ((9646899 / 4194304 : ℝ) : EReal) := of_decide_eq_true (ofBool_eq_one h3)
  have ht : w i ≠ ⊤ := fun q => EReal.coe_ne_top _ (top_le_iff.mp (q ▸ h3))
  refine ⟨EReal.toReal (w i), (EReal.coe_toReal ht (ne_of_gt h2)).symm, ?_⟩
  rw [← EReal.coe_toReal ht (ne_of_gt h2), EReal.coe_le_coe_iff] at h3
  linarith

end Cert.Proof.Pre

end
-- ==== Proof.lean ====
/-
  The certificate's claims about the loss kernel, put together.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_targets_in_range
public import proofs.«01_k».proof.Proof.Gen.Pre_margins_bounded
public import proofs.«01_k».proof.Proof.Kernel.Launch
public import proofs.«01_k».proof.Proof.KernelIdeal.Launch
public import proofs.«01_k».proof.Proof.KernelIdeal.Value
public import proofs.«01_k».proof.Proof.Reference.Value
public import proofs.«01_k».proof.Proof.Pre

@[expose] public section

noncomputable section

namespace Cert.Proof

open Idealize.ShloMosaic Idealize.SL.Sem

/-- The kernel on the machine's words: it ends, its arguments as they were, every counter back at zero. -/
theorem frame_Kernel : Cert.quiescent_Kernel := fun m g hpre =>
  (θ_run _ _ _).mono (fun _ h => ⟨fun c => (h.1 c).2, h.2⟩) (Kernel.run_main m g fun d r => Pre.targets_lt (hpre d) r)

/-- The kernel over the extended reals: the same. -/
theorem frame_KernelIdeal : Cert.quiescent_KernelIdeal := fun m g hpre =>
  (θ_run _ _ _).mono (fun _ h => ⟨fun c => (h.1 c).2, h.2⟩) (KernelIdeal.run_main m g fun d r => Pre.targets_lt (hpre d) r)

/-- The same under the margins' precondition. -/
theorem frame_KernelIdeal_margins : Cert.quiescent_KernelIdeal_pre_margins_bounded := fun m g hpre =>
  (θ_run _ _ _).mono (fun _ h => ⟨fun c => (h.1 c).2, h.2⟩) (KernelIdeal.run_main m g fun d r => (Pre.margin_facts (hpre d)).1 r)

/-- The reference ends with its arguments as they were. -/
theorem frame_ReferenceIdeal : Cert.quiescent_ReferenceIdeal := fun m g _ =>
  (θ_run _ _ _).mono (fun r h => ⟨fun c => (h c).2, sem_eq_zero_of_no_sems (by decide) r.2⟩) (Cert.ReferenceIdeal.Value.run m g)

/-- The same under the margins' precondition. -/
theorem frame_ReferenceIdeal_margins : Cert.quiescent_ReferenceIdeal_pre_margins_bounded := fun m g _ =>
  (θ_run _ _ _).mono (fun r h => ⟨fun c => (h c).2, sem_eq_zero_of_no_sems (by decide) r.2⟩) (Cert.ReferenceIdeal.Value.run m g)

/-- Over the extended reals the kernel's result is the reference's, where the margins are finite and at most 2.3. -/
theorem algebraic : Cert.algebraic_KernelIdeal_ReferenceIdeal_pre_margins_bounded := by
  intro m g m' g' hpre hin
  have hf (c) := Pre.margin_facts (hpre c)
  refine ⟨fun c => KernelIdeal.result m c, ?_, ?_⟩
  · exact (θ_run _ _ _).mono (fun _ h => h.1) (KernelIdeal.run_main m g fun d r => (hf d).1 r)
  · refine (θ_run _ _ _).mono (fun r h c => ⟨(h c).1.trans ?_, (h c).2⟩) (Cert.ReferenceIdeal.Value.run m' g')
    obtain ⟨h0, h1, h2⟩ := hin c
    refine (Reference.res_eq m' c fun r => ?_).trans ?_
    · rw [h2]; exact (hf c).1 r
    · rw [h0, h1, h2]; exact (KernelIdeal.result_eq m c (hf c).2).symm

theorem claim : Cert.Claim := ⟨Cert.Kernel.Gen.facts, Cert.KernelIdeal.Gen.facts, Cert.ReferenceIdeal.Gen.facts, Cert.Pre_targets_in_range.Gen.facts, Cert.Pre_margins_bounded.Gen.facts,
  frame_Kernel, frame_KernelIdeal, frame_KernelIdeal_margins, frame_ReferenceIdeal, frame_ReferenceIdeal_margins, trivial, algebraic⟩

end Cert.Proof

end
